-- ==== Defs.lean ====
def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjNext (m : (ℓ : Loc Cert.ProjNext.nD Cert.ProjNext.τ Cert.ProjNext.sig) → Buf (Elt Bits) ℓ) : Prop :=
  True

def Pre_ProjNextIdeal (m : (ℓ : Loc Cert.ProjNextIdeal.nD Cert.ProjNextIdeal.τ Cert.ProjNextIdeal.sig) → Buf (Elt Ideal) ℓ) : Prop :=
  True

def Pre_ProjNextRefIdeal (m : (ℓ : Loc Cert.ProjNextRefIdeal.nD Cert.ProjNextRefIdeal.τ Cert.ProjNextRefIdeal.sig) → Buf (Elt Ideal) ℓ) : Prop :=
  True

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjNext [hProjNext : Cert.ProjNext.Facts] : Prop :=
  ∀ (m : (ℓ : Loc Cert.ProjNext.nD Cert.ProjNext.τ Cert.ProjNext.sig) → Buf (Elt Bits) ℓ) (g : Dev Cert.ProjNext.nD → PrngReg), Pre_ProjNext m →
    θ_run (Cert.ProjNext.defs (F := Bits)) (onTc (τ := Cert.ProjNext.τ) (Cert.ProjNext.main (F := Bits))) ⟨m, fun _ => 0, g⟩ (fun r => (∀ c : Dev Cert.ProjNext.nD,
      r.2.mem ((c.tc : Thread Cert.ProjNext.nD Cert.ProjNext.τ).loc Cert.ProjNext.main_arg0) = m ((c.tc : Thread Cert.ProjNext.nD Cert.ProjNext.τ).loc Cert.ProjNext.main_arg0)
      ∧ r.2.mem ((c.tc : Thread Cert.ProjNext.nD Cert.ProjNext.τ).loc Cert.ProjNext.main_arg1) = m ((c.tc : Thread Cert.ProjNext.nD Cert.ProjNext.τ).loc Cert.ProjNext.main_arg1)
      ∧ r.2.mem ((c.tc : Thread Cert.ProjNext.nD Cert.ProjNext.τ).loc Cert.ProjNext.main_arg2) = m ((c.tc : Thread Cert.ProjNext.nD Cert.ProjNext.τ).loc Cert.ProjNext.main_arg2)
      ∧ r.2.mem ((c.tc : Thread Cert.ProjNext.nD Cert.ProjNext.τ).loc Cert.ProjNext.main_arg3) = m ((c.tc : Thread Cert.ProjNext.nD Cert.ProjNext.τ).loc Cert.ProjNext.main_arg3)
      ∧ r.2.mem ((c.tc : Thread Cert.ProjNext.nD Cert.ProjNext.τ).loc Cert.ProjNext.main_arg4) = m ((c.tc : Thread Cert.ProjNext.nD Cert.ProjNext.τ).loc Cert.ProjNext.main_arg4))
      ∧ r.2.sem = fun _ => 0)

def quiescent_ProjNextIdeal [hProjNextIdeal : Cert.ProjNextIdeal.Facts] : Prop :=
  ∀ (m : (ℓ : Loc Cert.ProjNextIdeal.nD Cert.ProjNextIdeal.τ Cert.ProjNextIdeal.sig) → Buf (Elt Ideal) ℓ) (g : Dev Cert.ProjNextIdeal.nD → PrngReg), Pre_ProjNextIdeal m →
    θ_run (Cert.ProjNextIdeal.defs (F := Ideal)) (onTc (τ := Cert.ProjNextIdeal.τ) (Cert.ProjNextIdeal.main (F := Ideal))) ⟨m, fun _ => 0, g⟩ (fun r => (∀ c : Dev Cert.ProjNextIdeal.nD,
      r.2.mem ((c.tc : Thread Cert.ProjNextIdeal.nD Cert.ProjNextIdeal.τ).loc Cert.ProjNextIdeal.main_arg0) = m ((c.tc : Thread Cert.ProjNextIdeal.nD Cert.ProjNextIdeal.τ).loc Cert.ProjNextIdeal.main_arg0)
      ∧ r.2.mem ((c.tc : Thread Cert.ProjNextIdeal.nD Cert.ProjNextIdeal.τ).loc Cert.ProjNextIdeal.main_arg1) = m ((c.tc : Thread Cert.ProjNextIdeal.nD Cert.ProjNextIdeal.τ).loc Cert.ProjNextIdeal.main_arg1)
      ∧ r.2.mem ((c.tc : Thread Cert.ProjNextIdeal.nD Cert.ProjNextIdeal.τ).loc Cert.ProjNextIdeal.main_arg2) = m ((c.tc : Thread Cert.ProjNextIdeal.nD Cert.ProjNextIdeal.τ).loc Cert.ProjNextIdeal.main_arg2)
      ∧ r.2.mem ((c.tc : Thread Cert.ProjNextIdeal.nD Cert.ProjNextIdeal.τ).loc Cert.ProjNextIdeal.main_arg3) = m ((c.tc : Thread Cert.ProjNextIdeal.nD Cert.ProjNextIdeal.τ).loc Cert.ProjNextIdeal.main_arg3)
      ∧ r.2.mem ((c.tc : Thread Cert.ProjNextIdeal.nD Cert.ProjNextIdeal.τ).loc Cert.ProjNextIdeal.main_arg4) = m ((c.tc : Thread Cert.ProjNextIdeal.nD Cert.ProjNextIdeal.τ).loc Cert.ProjNextIdeal.main_arg4))
      ∧ r.2.sem = fun _ => 0)

def quiescent_ProjNextRefIdeal [hProjNextRefIdeal : Cert.ProjNextRefIdeal.Facts] : Prop :=
  ∀ (m : (ℓ : Loc Cert.ProjNextRefIdeal.nD Cert.ProjNextRefIdeal.τ Cert.ProjNextRefIdeal.sig) → Buf (Elt Ideal) ℓ) (g : Dev Cert.ProjNextRefIdeal.nD → PrngReg), Pre_ProjNextRefIdeal m →
    θ_run (Cert.ProjNextRefIdeal.defs (F := Ideal)) (onTc (τ := Cert.ProjNextRefIdeal.τ) (Cert.ProjNextRefIdeal.main (F := Ideal))) ⟨m, fun _ => 0, g⟩ (fun r => (∀ c : Dev Cert.ProjNextRefIdeal.nD,
      r.2.mem ((c.tc : Thread Cert.ProjNextRefIdeal.nD Cert.ProjNextRefIdeal.τ).loc Cert.ProjNextRefIdeal.main_arg0) = m ((c.tc : Thread Cert.ProjNextRefIdeal.nD Cert.ProjNextRefIdeal.τ).loc Cert.ProjNextRefIdeal.main_arg0)
      ∧ r.2.mem ((c.tc : Thread Cert.ProjNextRefIdeal.nD Cert.ProjNextRefIdeal.τ).loc Cert.ProjNextRefIdeal.main_arg1) = m ((c.tc : Thread Cert.ProjNextRefIdeal.nD Cert.ProjNextRefIdeal.τ).loc Cert.ProjNextRefIdeal.main_arg1)
      ∧ r.2.mem ((c.tc : Thread Cert.ProjNextRefIdeal.nD Cert.ProjNextRefIdeal.τ).loc Cert.ProjNextRefIdeal.main_arg2) = m ((c.tc : Thread Cert.ProjNextRefIdeal.nD Cert.ProjNextRefIdeal.τ).loc Cert.ProjNextRefIdeal.main_arg2)
      ∧ r.2.mem ((c.tc : Thread Cert.ProjNextRefIdeal.nD Cert.ProjNextRefIdeal.τ).loc Cert.ProjNextRefIdeal.main_arg3) = m ((c.tc : Thread Cert.ProjNextRefIdeal.nD Cert.ProjNextRefIdeal.τ).loc Cert.ProjNextRefIdeal.main_arg3)
      ∧ r.2.mem ((c.tc : Thread Cert.ProjNextRefIdeal.nD Cert.ProjNextRefIdeal.τ).loc Cert.ProjNextRefIdeal.main_arg4) = m ((c.tc : Thread Cert.ProjNextRefIdeal.nD Cert.ProjNextRefIdeal.τ).loc Cert.ProjNextRefIdeal.main_arg4))
      ∧ r.2.sem = fun _ => 0)

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v36) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v42) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)) (v3 : (c : Dev Cert.ProjIdeal.nD) → Buf (Elt Ideal) ((c.tc : Thread Cert.ProjIdeal.nD Cert.ProjIdeal.τ).loc Cert.ProjIdeal.main_v3_3)) (v4 : (c : Dev Cert.ProjIdeal.nD) → Buf (Elt Ideal) ((c.tc : Thread Cert.ProjIdeal.nD Cert.ProjIdeal.τ).loc Cert.ProjIdeal.main_v3_4)) (v5 : (c : Dev Cert.ProjIdeal.nD) → Buf (Elt Ideal) ((c.tc : Thread Cert.ProjIdeal.nD Cert.ProjIdeal.τ).loc Cert.ProjIdeal.main_v3_5)) (v6 : (c : Dev Cert.ProjIdeal.nD) → Buf (Elt Ideal) ((c.tc : Thread Cert.ProjIdeal.nD Cert.ProjIdeal.τ).loc Cert.ProjIdeal.main_v3_6)) (v7 : (c : Dev Cert.ProjIdeal.nD) → Buf (Elt Ideal) ((c.tc : Thread Cert.ProjIdeal.nD Cert.ProjIdeal.τ).loc Cert.ProjIdeal.main_v3_7)) (v8 : (c : Dev Cert.ProjIdeal.nD) → Buf (Elt Ideal) ((c.tc : Thread Cert.ProjIdeal.nD Cert.ProjIdeal.τ).loc Cert.ProjIdeal.main_v3_8)) (v9 : (c : Dev Cert.ProjIdeal.nD) → Buf (Elt Ideal) ((c.tc : Thread Cert.ProjIdeal.nD Cert.ProjIdeal.τ).loc Cert.ProjIdeal.main_v3_9)) (v10 : (c : Dev Cert.ProjIdeal.nD) → Buf (Elt Ideal) ((c.tc : Thread Cert.ProjIdeal.nD Cert.ProjIdeal.τ).loc Cert.ProjIdeal.main_v3_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_v3_3) = v3 c
          ∧ r.2.mem ((c.tc : Thread Cert.ProjIdeal.nD Cert.ProjIdeal.τ).loc Cert.ProjIdeal.main_v3_4) = v4 c
          ∧ r.2.mem ((c.tc : Thread Cert.ProjIdeal.nD Cert.ProjIdeal.τ).loc Cert.ProjIdeal.main_v3_5) = v5 c
          ∧ r.2.mem ((c.tc : Thread Cert.ProjIdeal.nD Cert.ProjIdeal.τ).loc Cert.ProjIdeal.main_v3_6) = v6 c
          ∧ r.2.mem ((c.tc : Thread Cert.ProjIdeal.nD Cert.ProjIdeal.τ).loc Cert.ProjIdeal.main_v3_7) = v7 c
          ∧ r.2.mem ((c.tc : Thread Cert.ProjIdeal.nD Cert.ProjIdeal.τ).loc Cert.ProjIdeal.main_v3_8) = v8 c
          ∧ r.2.mem ((c.tc : Thread Cert.ProjIdeal.nD Cert.ProjIdeal.τ).loc Cert.ProjIdeal.main_v3_9) = v9 c
          ∧ r.2.mem ((c.tc : Thread Cert.ProjIdeal.nD Cert.ProjIdeal.τ).loc Cert.ProjIdeal.main_v3_10) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v23) = v0 c
          ∧ r.2.mem ((c.tc : Thread Cert.ProjRefIdeal.nD Cert.ProjRefIdeal.τ).loc Cert.ProjRefIdeal.main_v28) = v1 c
          ∧ r.2.mem ((c.tc : Thread Cert.ProjRefIdeal.nD Cert.ProjRefIdeal.τ).loc Cert.ProjRefIdeal.main_v33) = v2 c
          ∧ r.2.mem ((c.tc : Thread Cert.ProjRefIdeal.nD Cert.ProjRefIdeal.τ).loc Cert.ProjRefIdeal.main_v34) = v3 c
          ∧ r.2.mem ((c.tc : Thread Cert.ProjRefIdeal.nD Cert.ProjRefIdeal.τ).loc Cert.ProjRefIdeal.main_v37) = v4 c
          ∧ r.2.mem ((c.tc : Thread Cert.ProjRefIdeal.nD Cert.ProjRefIdeal.τ).loc Cert.ProjRefIdeal.main_v40) = v5 c
          ∧ r.2.mem ((c.tc : Thread Cert.ProjRefIdeal.nD Cert.ProjRefIdeal.τ).loc Cert.ProjRefIdeal.main_v41) = v6 c
          ∧ r.2.mem ((c.tc : Thread Cert.ProjRefIdeal.nD Cert.ProjRefIdeal.τ).loc Cert.ProjRefIdeal.main_v42) = v7 c
          ∧ r.2.mem ((c.tc : Thread Cert.ProjRefIdeal.nD Cert.ProjRefIdeal.τ).loc Cert.ProjRefIdeal.main_v43) = v8 c
          ∧ r.2.mem ((c.tc : Thread Cert.ProjRefIdeal.nD Cert.ProjRefIdeal.τ).loc Cert.ProjRefIdeal.main_v46) = v9 c
          ∧ r.2.mem ((c.tc : Thread Cert.ProjRefIdeal.nD Cert.ProjRefIdeal.τ).loc Cert.ProjRefIdeal.main_v48) = v10 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_ProjNext_ProjNextIdeal : Prop :=
  True

def algebraic_ProjNextIdeal_ProjNextRefIdeal [hProjNextIdeal : Cert.ProjNextIdeal.Facts] [hProjNextRefIdeal : Cert.ProjNextRefIdeal.Facts] : Prop :=
  ∀ (m : (ℓ : Loc Cert.ProjNextIdeal.nD Cert.ProjNextIdeal.τ Cert.ProjNextIdeal.sig) → Buf (Elt Ideal) ℓ) (g : Dev Cert.ProjNextIdeal.nD → PrngReg)
    (m' : (ℓ : Loc Cert.ProjNextRefIdeal.nD Cert.ProjNextRefIdeal.τ Cert.ProjNextRefIdeal.sig) → Buf (Elt Ideal) ℓ) (g' : Dev Cert.ProjNextRefIdeal.nD → PrngReg), Pre_ProjNextIdeal m →
    (∀ c : Dev Cert.ProjNextIdeal.nD,
      m' ((c.tc : Thread Cert.ProjNextRefIdeal.nD Cert.ProjNextRefIdeal.τ).loc Cert.ProjNextRefIdeal.main_arg0) = m ((c.tc : Thread Cert.ProjNextIdeal.nD Cert.ProjNextIdeal.τ).loc Cert.ProjNextIdeal.main_arg0)
      ∧ m' ((c.tc : Thread Cert.ProjNextRefIdeal.nD Cert.ProjNextRefIdeal.τ).loc Cert.ProjNextRefIdeal.main_arg1) = m ((c.tc : Thread Cert.ProjNextIdeal.nD Cert.ProjNextIdeal.τ).loc Cert.ProjNextIdeal.main_arg1)
      ∧ m' ((c.tc : Thread Cert.ProjNextRefIdeal.nD Cert.ProjNextRefIdeal.τ).loc Cert.ProjNextRefIdeal.main_arg2) = m ((c.tc : Thread Cert.ProjNextIdeal.nD Cert.ProjNextIdeal.τ).loc Cert.ProjNextIdeal.main_arg2)
      ∧ m' ((c.tc : Thread Cert.ProjNextRefIdeal.nD Cert.ProjNextRefIdeal.τ).loc Cert.ProjNextRefIdeal.main_arg3) = m ((c.tc : Thread Cert.ProjNextIdeal.nD Cert.ProjNextIdeal.τ).loc Cert.ProjNextIdeal.main_arg3)
      ∧ m' ((c.tc : Thread Cert.ProjNextRefIdeal.nD Cert.ProjNextRefIdeal.τ).loc Cert.ProjNextRefIdeal.main_arg4) = m ((c.tc : Thread Cert.ProjNextIdeal.nD Cert.ProjNextIdeal.τ).loc Cert.ProjNextIdeal.main_arg4)) →
    ∃ (v0 : (c : Dev Cert.ProjNextIdeal.nD) → Buf (Elt Ideal) ((c.tc : Thread Cert.ProjNextIdeal.nD Cert.ProjNextIdeal.τ).loc Cert.ProjNextIdeal.main_v3_0)) (v1 : (c : Dev Cert.ProjNextIdeal.nD) → Buf (Elt Ideal) ((c.tc : Thread Cert.ProjNextIdeal.nD Cert.ProjNextIdeal.τ).loc Cert.ProjNextIdeal.main_v3_1)) (v2 : (c : Dev Cert.ProjNextIdeal.nD) → Buf (Elt Ideal) ((c.tc : Thread Cert.ProjNextIdeal.nD Cert.ProjNextIdeal.τ).loc Cert.ProjNextIdeal.main_v3_2)) (v3 : (c : Dev Cert.ProjNextIdeal.nD) → Buf (Elt Ideal) ((c.tc : Thread Cert.ProjNextIdeal.nD Cert.ProjNextIdeal.τ).loc Cert.ProjNextIdeal.main_v3_3)) (v4 : (c : Dev Cert.ProjNextIdeal.nD) → Buf (Elt Ideal) ((c.tc : Thread Cert.ProjNextIdeal.nD Cert.ProjNextIdeal.τ).loc Cert.ProjNextIdeal.main_v3_4)) (v5 : (c : Dev Cert.ProjNextIdeal.nD) → Buf (Elt Ideal) ((c.tc : Thread Cert.ProjNextIdeal.nD Cert.ProjNextIdeal.τ).loc Cert.ProjNextIdeal.main_v3_5)) (v6 : (c : Dev Cert.ProjNextIdeal.nD) → Buf (Elt Ideal) ((c.tc : Thread Cert.ProjNextIdeal.nD Cert.ProjNextIdeal.τ).loc Cert.ProjNextIdeal.main_v3_6)) (v7 : (c : Dev Cert.ProjNextIdeal.nD) → Buf (Elt Ideal) ((c.tc : Thread Cert.ProjNextIdeal.nD Cert.ProjNextIdeal.τ).loc Cert.ProjNextIdeal.main_v3_7)) (v8 : (c : Dev Cert.ProjNextIdeal.nD) → Buf (Elt Ideal) ((c.tc : Thread Cert.ProjNextIdeal.nD Cert.ProjNextIdeal.τ).loc Cert.ProjNextIdeal.main_v3_8)) (v9 : (c : Dev Cert.ProjNextIdeal.nD) → Buf (Elt Ideal) ((c.tc : Thread Cert.ProjNextIdeal.nD Cert.ProjNextIdeal.τ).loc Cert.ProjNextIdeal.main_v3_9)) (v10 : (c : Dev Cert.ProjNextIdeal.nD) → Buf (Elt Ideal) ((c.tc : Thread Cert.ProjNextIdeal.nD Cert.ProjNextIdeal.τ).loc Cert.ProjNextIdeal.main_v3_10)),
      θ_run (Cert.ProjNextIdeal.defs (F := Ideal)) (onTc (τ := Cert.ProjNextIdeal.τ) (Cert.ProjNextIdeal.main (F := Ideal))) ⟨m, fun _ => 0, g⟩ (fun r => ∀ c : Dev Cert.ProjNextIdeal.nD,
          r.2.mem ((c.tc : Thread Cert.ProjNextIdeal.nD Cert.ProjNextIdeal.τ).loc Cert.ProjNextIdeal.main_v3_0) = v0 c
          ∧ r.2.mem ((c.tc : Thread Cert.ProjNextIdeal.nD Cert.ProjNextIdeal.τ).loc Cert.ProjNextIdeal.main_v3_1) = v1 c
          ∧ r.2.mem ((c.tc : Thread Cert.ProjNextIdeal.nD Cert.ProjNextIdeal.τ).loc Cert.ProjNextIdeal.main_v3_2) = v2 c
          ∧ r.2.mem ((c.tc : Thread Cert.ProjNextIdeal.nD Cert.ProjNextIdeal.τ).loc Cert.ProjNextIdeal.main_v3_3) = v3 c
          ∧ r.2.mem ((c.tc : Thread Cert.ProjNextIdeal.nD Cert.ProjNextIdeal.τ).loc Cert.ProjNextIdeal.main_v3_4) = v4 c
          ∧ r.2.mem ((c.tc : Thread Cert.ProjNextIdeal.nD Cert.ProjNextIdeal.τ).loc Cert.ProjNextIdeal.main_v3_5) = v5 c
          ∧ r.2.mem ((c.tc : Thread Cert.ProjNextIdeal.nD Cert.ProjNextIdeal.τ).loc Cert.ProjNextIdeal.main_v3_6) = v6 c
          ∧ r.2.mem ((c.tc : Thread Cert.ProjNextIdeal.nD Cert.ProjNextIdeal.τ).loc Cert.ProjNextIdeal.main_v3_7) = v7 c
          ∧ r.2.mem ((c.tc : Thread Cert.ProjNextIdeal.nD Cert.ProjNextIdeal.τ).loc Cert.ProjNextIdeal.main_v3_8) = v8 c
          ∧ r.2.mem ((c.tc : Thread Cert.ProjNextIdeal.nD Cert.ProjNextIdeal.τ).loc Cert.ProjNextIdeal.main_v3_9) = v9 c
          ∧ r.2.mem ((c.tc : Thread Cert.ProjNextIdeal.nD Cert.ProjNextIdeal.τ).loc Cert.ProjNextIdeal.main_v3_10) = v10 c
          ∧ r.2.mem ((c.tc : Thread Cert.ProjNextIdeal.nD Cert.ProjNextIdeal.τ).loc Cert.ProjNextIdeal.main_arg0) = m ((c.tc : Thread Cert.ProjNextIdeal.nD Cert.ProjNextIdeal.τ).loc Cert.ProjNextIdeal.main_arg0)
          ∧ r.2.mem ((c.tc : Thread Cert.ProjNextIdeal.nD Cert.ProjNextIdeal.τ).loc Cert.ProjNextIdeal.main_arg1) = m ((c.tc : Thread Cert.ProjNextIdeal.nD Cert.ProjNextIdeal.τ).loc Cert.ProjNextIdeal.main_arg1)
          ∧ r.2.mem ((c.tc : Thread Cert.ProjNextIdeal.nD Cert.ProjNextIdeal.τ).loc Cert.ProjNextIdeal.main_arg2) = m ((c.tc : Thread Cert.ProjNextIdeal.nD Cert.ProjNextIdeal.τ).loc Cert.ProjNextIdeal.main_arg2)
          ∧ r.2.mem ((c.tc : Thread Cert.ProjNextIdeal.nD Cert.ProjNextIdeal.τ).loc Cert.ProjNextIdeal.main_arg3) = m ((c.tc : Thread Cert.ProjNextIdeal.nD Cert.ProjNextIdeal.τ).loc Cert.ProjNextIdeal.main_arg3)
          ∧ r.2.mem ((c.tc : Thread Cert.ProjNextIdeal.nD Cert.ProjNextIdeal.τ).loc Cert.ProjNextIdeal.main_arg4) = m ((c.tc : Thread Cert.ProjNextIdeal.nD Cert.ProjNextIdeal.τ).loc Cert.ProjNextIdeal.main_arg4))
      ∧ θ_run (Cert.ProjNextRefIdeal.defs (F := Ideal)) (onTc (τ := Cert.ProjNextRefIdeal.τ) (Cert.ProjNextRefIdeal.main (F := Ideal))) ⟨m', fun _ => 0, g'⟩ (fun r => ∀ c : Dev Cert.ProjNextRefIdeal.nD,
          r.2.mem ((c.tc : Thread Cert.ProjNextRefIdeal.nD Cert.ProjNextRefIdeal.τ).loc Cert.ProjNextRefIdeal.main_v23) = v0 c
          ∧ r.2.mem ((c.tc : Thread Cert.ProjNextRefIdeal.nD Cert.ProjNextRefIdeal.τ).loc Cert.ProjNextRefIdeal.main_v29) = v1 c
          ∧ r.2.mem ((c.tc : Thread Cert.ProjNextRefIdeal.nD Cert.ProjNextRefIdeal.τ).loc Cert.ProjNextRefIdeal.main_v35) = v2 c
          ∧ r.2.mem ((c.tc : Thread Cert.ProjNextRefIdeal.nD Cert.ProjNextRefIdeal.τ).loc Cert.ProjNextRefIdeal.main_v36) = v3 c
          ∧ r.2.mem ((c.tc : Thread Cert.ProjNextRefIdeal.nD Cert.ProjNextRefIdeal.τ).loc Cert.ProjNextRefIdeal.main_v39) = v4 c
          ∧ r.2.mem ((c.tc : Thread Cert.ProjNextRefIdeal.nD Cert.ProjNextRefIdeal.τ).loc Cert.ProjNextRefIdeal.main_v42) = v5 c
          ∧ r.2.mem ((c.tc : Thread Cert.ProjNextRefIdeal.nD Cert.ProjNextRefIdeal.τ).loc Cert.ProjNextRefIdeal.main_v43) = v6 c
          ∧ r.2.mem ((c.tc : Thread Cert.ProjNextRefIdeal.nD Cert.ProjNextRefIdeal.τ).loc Cert.ProjNextRefIdeal.main_v44) = v7 c
          ∧ r.2.mem ((c.tc : Thread Cert.ProjNextRefIdeal.nD Cert.ProjNextRefIdeal.τ).loc Cert.ProjNextRefIdeal.main_v45) = v8 c
          ∧ r.2.mem ((c.tc : Thread Cert.ProjNextRefIdeal.nD Cert.ProjNextRefIdeal.τ).loc Cert.ProjNextRefIdeal.main_v48) = v9 c
          ∧ r.2.mem ((c.tc : Thread Cert.ProjNextRefIdeal.nD Cert.ProjNextRefIdeal.τ).loc Cert.ProjNextRefIdeal.main_v50) = v10 c
          ∧ r.2.mem ((c.tc : Thread Cert.ProjNextRefIdeal.nD Cert.ProjNextRefIdeal.τ).loc Cert.ProjNextRefIdeal.main_arg0) = m' ((c.tc : Thread Cert.ProjNextRefIdeal.nD Cert.ProjNextRefIdeal.τ).loc Cert.ProjNextRefIdeal.main_arg0)
          ∧ r.2.mem ((c.tc : Thread Cert.ProjNextRefIdeal.nD Cert.ProjNextRefIdeal.τ).loc Cert.ProjNextRefIdeal.main_arg1) = m' ((c.tc : Thread Cert.ProjNextRefIdeal.nD Cert.ProjNextRefIdeal.τ).loc Cert.ProjNextRefIdeal.main_arg1)
          ∧ r.2.mem ((c.tc : Thread Cert.ProjNextRefIdeal.nD Cert.ProjNextRefIdeal.τ).loc Cert.ProjNextRefIdeal.main_arg2) = m' ((c.tc : Thread Cert.ProjNextRefIdeal.nD Cert.ProjNextRefIdeal.τ).loc Cert.ProjNextRefIdeal.main_arg2)
          ∧ r.2.mem ((c.tc : Thread Cert.ProjNextRefIdeal.nD Cert.ProjNextRefIdeal.τ).loc Cert.ProjNextRefIdeal.main_arg3) = m' ((c.tc : Thread Cert.ProjNextRefIdeal.nD Cert.ProjNextRefIdeal.τ).loc Cert.ProjNextRefIdeal.main_arg3)
          ∧ r.2.mem ((c.tc : Thread Cert.ProjNextRefIdeal.nD Cert.ProjNextRefIdeal.τ).loc Cert.ProjNextRefIdeal.main_arg4) = m' ((c.tc : Thread Cert.ProjNextRefIdeal.nD Cert.ProjNextRefIdeal.τ).loc Cert.ProjNextRefIdeal.main_arg4))

def Claim : Prop :=
  ∃ (hExperts : Cert.Experts.Facts) (hExpertsIdeal : Cert.ExpertsIdeal.Facts) (hExpertsRefIdeal : Cert.ExpertsRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hProjNext : Cert.ProjNext.Facts) (hProjNextIdeal : Cert.ProjNextIdeal.Facts) (hProjNextRefIdeal : Cert.ProjNextRefIdeal.Facts) (hPre_experts_in_range : Cert.Pre_experts_in_range.Facts),
    quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal) (hPre_experts_in_range := hPre_experts_in_range)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_ProjNext (hProjNext := hProjNext)
    ∧ quiescent_ProjNextIdeal (hProjNextIdeal := hProjNextIdeal)
    ∧ quiescent_ProjNextRefIdeal (hProjNextRefIdeal := hProjNextRefIdeal)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_ProjNext_ProjNextIdeal
    ∧ algebraic_ProjNextIdeal_ProjNextRefIdeal (hProjNextIdeal := hProjNextIdeal) (hProjNextRefIdeal := hProjNextRefIdeal)
-- ==== Pre_experts_in_range.lean ====
abbrev S135168x1024 : Shape := ⟨2, ![135168, 1024]⟩
abbrev S1x1024 : Shape := ⟨2, ![1, 1024]⟩
abbrev S8x1024x1408 : Shape := ⟨3, ![8, 1024, 1408]⟩
abbrev S8x1408x1024 : Shape := ⟨3, ![8, 1408, 1024]⟩
abbrev S264 : Shape := ⟨1, ![264]⟩
abbrev S_ : Shape := ⟨0, ![]⟩

class Facts : Prop where
  bcast_S_S264 : S_.BroadcastsInDim S264 (![] : Fin 0 → Fin S264.rank)

variable [Facts]

def fn {F : FTy → Type} [FloatOps F] (main_arg0 : FVec F S135168x1024 .f32) (main_arg1 : FVec F S1x1024 .f32) (main_arg2 : FVec F S8x1024x1408 .bf16) (main_arg3 : FVec F S8x1024x1408 .bf16) (main_arg4 : FVec F S8x1408x1024 .bf16) (main_arg5 : IVec S264 32) (main_arg6 : IVec S264 32) : IVec S264 1 :=
  let main_c : IVec S_ 32 := constantI S_ 32 0#32
  let main_v0 : IVec S264 32 := broadcastInDim S264 ![] bcast_S_S264 main_c
  let main_v1 : IVec S264 1 := cmpi .sge main_arg5 main_v0
  let main_c_0 : IVec S_ 32 := constantI S_ 32 8#32
  let main_v2 : IVec S264 32 := broadcastInDim S264 ![] bcast_S_S264 main_c_0
  let main_v3 : IVec S264 1 := cmpi .slt main_arg5 main_v2
  let main_v4 : IVec S264 1 := andi main_v1 main_v3
  let main_c_1 : IVec S_ 32 := constantI S_ 32 0#32
  let main_v5 : IVec S264 32 := broadcastInDim S264 ![] bcast_S_S264 main_c_1
  let main_v6 : IVec S264 1 := cmpi .sge main_arg6 main_v5
  let main_v7 : IVec S264 1 := andi main_v4 main_v6
  main_v7
-- ==== Experts.lean ====
abbrev S135168x1024 : Shape := ⟨2, ![135168, 1024]⟩
abbrev S1x1024 : Shape := ⟨2, ![1, 1024]⟩
abbrev S8x1024x1408 : Shape := ⟨3, ![8, 1024, 1408]⟩
abbrev S8x1408x1024 : Shape := ⟨3, ![8, 1408, 1024]⟩
abbrev S264 : Shape := ⟨1, ![264]⟩
abbrev S512x1024 : Shape := ⟨2, ![512, 1024]⟩
abbrev S1x1024x1408 : Shape := ⟨3, ![1, 1024, 1408]⟩
abbrev S1 : Shape := ⟨1, ![1]⟩
abbrev S1x1408x1024 : Shape := ⟨3, ![1, 1408, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S1x1024x384 : Shape := ⟨3, ![1, 1024, 384]⟩
abbrev S1024x384 : Shape := ⟨2, ![1024, 384]⟩
abbrev S512x384 : Shape := ⟨2, ![512, 384]⟩
abbrev S1x384x1024 : Shape := ⟨3, ![1, 384, 1024]⟩
abbrev S384x1024 : Shape := ⟨2, ![384, 1024]⟩

abbrev nBuf : Space → Nat
  | .hbm => 6
  | .vmem => 11
  | .smem => 2
  | _ => 0

abbrev bufTy : (tb : Table) → Fin (tcTables nBuf tb) → BufTy
  | .hbm, ⟨0, _⟩ => ⟨S135168x1024, .f32⟩
  | .hbm, ⟨1, _⟩ => ⟨S1x1024, .f32⟩
  | .hbm, ⟨2, _⟩ => ⟨S8x1024x1408, .bf16⟩
  | .hbm, ⟨3, _⟩ => ⟨S8x1024x1408, .bf16⟩
  | .hbm, ⟨4, _⟩ => ⟨S8x1408x1024, .bf16⟩
  | .hbm, ⟨5, _⟩ => ⟨S135168x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S512x1024, .f32⟩
  | .local _ .vmem, ⟨10, _⟩ => ⟨S512x1024, .f32⟩
  | .local _ .smem, ⟨0, _⟩ => ⟨S264, .i32⟩
  | .local _ .smem, ⟨1, _⟩ => ⟨S264, .i32⟩
  | _, _ => ⟨S135168x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![264], ![false]⟩

abbrev pre0 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .eq v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsRefIdeal.lean ====
abbrev S135168x1024 : Shape := ⟨2, ![135168, 1024]⟩
abbrev S1x1024 : Shape := ⟨2, ![1, 1024]⟩
abbrev S8x1024x1408 : Shape := ⟨3, ![8, 1024, 1408]⟩
abbrev S8x1408x1024 : Shape := ⟨3, ![8, 1408, 1024]⟩
abbrev S264 : Shape := ⟨1, ![264]⟩
abbrev S1024 : Shape := ⟨1, ![1024]⟩
abbrev S_ : Shape := ⟨0, ![]⟩
abbrev S135168 : Shape := ⟨1, ![135168]⟩
abbrev S135168x1 : Shape := ⟨2, ![135168, 1]⟩
abbrev S264x1 : Shape := ⟨2, ![264, 1]⟩
abbrev S1x8 : Shape := ⟨2, ![1, 8]⟩
abbrev S264x8 : Shape := ⟨2, ![264, 8]⟩
abbrev S264x1x8 : Shape := ⟨3, ![264, 1, 8]⟩
abbrev S264x512x8 : Shape := ⟨3, ![264, 512, 8]⟩
abbrev S135168x8 : Shape := ⟨2, ![135168, 8]⟩
abbrev S135168x8x1408 : Shape := ⟨3, ![135168, 8, 1408]⟩
abbrev S8x1024x135168 : Shape := ⟨3, ![8, 1024, 135168]⟩
abbrev S135168x8x1024 : Shape := ⟨3, ![135168, 8, 1024]⟩
abbrev S135168x8x1 : Shape := ⟨3, ![135168, 8, 1]⟩

abbrev nBuf : Space → Nat
  | .hbm => 62
  | .vmem => 0
  | .smem => 0
  | _ => 0

abbrev bufTy : (tb : Table) → Fin (tcTables nBuf tb) → BufTy
  | .hbm, ⟨0, _⟩ => ⟨S135168x1024, .f32⟩
  | .hbm, ⟨1, _⟩ => ⟨S1x1024, .f32⟩
  | .hbm, ⟨2, _⟩ => ⟨S8x1024x1408, .bf16⟩
  | .hbm, ⟨3, _⟩ => ⟨S8x1024x1408, .bf16⟩
  | .hbm, ⟨4, _⟩ => ⟨S8x1408x1024, .bf16⟩
  | .hbm, ⟨5, _⟩ => ⟨S264, .i32⟩
  | .hbm, ⟨6, _⟩ => ⟨S264, .i32⟩
  | .hbm, ⟨7, _⟩ => ⟨S1024, .f32⟩
  | .hbm, ⟨8, _⟩ => ⟨S135168x1024, .f32⟩
  | .hbm, ⟨9, _⟩ => ⟨S_, .f32⟩
  | .hbm, ⟨10, _⟩ => ⟨S135168, .f32⟩
  | .hbm, ⟨11, _⟩ => ⟨S135168x1, .f32⟩
  | .hbm, ⟨12, _⟩ => ⟨S_, .f32⟩
  | .hbm, ⟨13, _⟩ => ⟨S135168x1, .f32⟩
  | .hbm, ⟨14, _⟩ => ⟨S135168x1, .f32⟩
  | .hbm, ⟨15, _⟩ => ⟨S_, .f32⟩
  | .hbm, ⟨16, _⟩ => ⟨S135168x1, .f32⟩
  | .hbm, ⟨17, _⟩ => ⟨S135168x1, .f32⟩
  | .hbm, ⟨18, _⟩ => ⟨S135168x1, .f32⟩
  | .hbm, ⟨19, _⟩ => ⟨S135168x1024, .f32⟩
  | .hbm, ⟨20, _⟩ => ⟨S135168x1024, .f32⟩
  | .hbm, ⟨21, _⟩ => ⟨S1x1024, .f32⟩
  | .hbm, ⟨22, _⟩ => ⟨S135168x1024, .f32⟩
  | .hbm, ⟨23, _⟩ => ⟨S135168x1024, .f32⟩
  | .hbm, ⟨24, _⟩ => ⟨S264x1, .i32⟩
  | .hbm, ⟨25, _⟩ => ⟨S1x8, .i32⟩
  | .hbm, ⟨26, _⟩ => ⟨S264x8, .i32⟩
  | .hbm, ⟨27, _⟩ => ⟨S264x8, .i32⟩
  | .hbm, ⟨28, _⟩ => ⟨S264x8, .i1⟩
  | .hbm, ⟨29, _⟩ => ⟨S264x8, .f32⟩
  | .hbm, ⟨30, _⟩ => ⟨S_, .i32⟩
  | .hbm, ⟨31, _⟩ => ⟨S264, .i32⟩
  | .hbm, ⟨32, _⟩ => ⟨S264, .i1⟩
  | .hbm, ⟨33, _⟩ => ⟨S264, .f32⟩
  | .hbm, ⟨34, _⟩ => ⟨S264x1, .f32⟩
  | .hbm, ⟨35, _⟩ => ⟨S264x8, .f32⟩
  | .hbm, ⟨36, _⟩ => ⟨S264x8, .f32⟩
  | .hbm, ⟨37, _⟩ => ⟨S264x1x8, .f32⟩
  | .hbm, ⟨38, _⟩ => ⟨S264x512x8, .f32⟩
  | .hbm, ⟨39, _⟩ => ⟨S135168x8, .f32⟩
  | .hbm, ⟨40, _⟩ => ⟨S8x1024x1408, .f32⟩
  | .hbm, ⟨41, _⟩ => ⟨S135168x8x1408, .f32⟩
  | .hbm, ⟨42, _⟩ => ⟨S8x1024x1408, .f32⟩
  | .hbm, ⟨43, _⟩ => ⟨S135168x8x1408, .f32⟩
  | .hbm, ⟨44, _⟩ => ⟨S135168x8x1408, .f32⟩
  | .hbm, ⟨45, _⟩ => ⟨S135168x8x1408, .f32⟩
  | .hbm, ⟨46, _⟩ => ⟨S_, .f32⟩
  | .hbm, ⟨47, _⟩ => ⟨S135168x8x1408, .f32⟩
  | .hbm, ⟨48, _⟩ => ⟨S135168x8x1408, .f32⟩
  | .hbm, ⟨49, _⟩ => ⟨S_, .f32⟩
  | .hbm, ⟨50, _⟩ => ⟨S135168x8x1408, .f32⟩
  | .hbm, ⟨51, _⟩ => ⟨S135168x8x1408, .f32⟩
  | .hbm, ⟨52, _⟩ => ⟨S135168x8x1408, .f32⟩
  | .hbm, ⟨53, _⟩ => ⟨S135168x8x1408, .f32⟩
  | .hbm, ⟨54, _⟩ => ⟨S8x1408x1024, .f32⟩
  | .hbm, ⟨55, _⟩ => ⟨S8x1024x135168, .f32⟩
  | .hbm, ⟨56, _⟩ => ⟨S135168x8x1024, .f32⟩
  | .hbm, ⟨57, _⟩ => ⟨S135168x8x1, .f32⟩
  | .hbm, ⟨58, _⟩ => ⟨S135168x8x1024, .f32⟩
  | .hbm, ⟨59, _⟩ => ⟨S135168x8x1024, .f32⟩
  | .hbm, ⟨60, _⟩ => ⟨S_, .f32⟩
  | .hbm, ⟨61, _⟩ => ⟨S135168x1024, .f32⟩
  | _, _ => ⟨S135168x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_2 : Ref sig .tc := ⟨.hbm, 60, rfl⟩
abbrev main_v36 : Ref sig .tc := ⟨.hbm, 61, rfl⟩

abbrev nD : Nat := 1
abbrev τ : Topo := Topo.v7x

variable {F : FTy → Type} [FloatOps F]
-- ==== Ffn.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩

abbrev nBuf : Space → Nat
  | .hbm => 36
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8x8192x1024, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S1x1x1024, .f32⟩
  | .hbm, ⟨20, _⟩ => ⟨S8x8192x1024, .f32⟩
  | .hbm, ⟨21, _⟩ => ⟨S8x8192x1024, .f32⟩
  | .hbm, ⟨22, _⟩ => ⟨S8x8192x2816, .f32⟩
  | .hbm, ⟨23, _⟩ => ⟨S8x8192x2816, .f32⟩
  | .hbm, ⟨24, _⟩ => ⟨S8x8192x2816, .f32⟩
  | .hbm, ⟨25, _⟩ => ⟨S_, .f32⟩
  | .hbm, ⟨26, _⟩ => ⟨S8x8192x2816, .f32⟩
  | .hbm, ⟨27, _⟩ => ⟨S8x8192x2816, .f32⟩
  | .hbm, ⟨28, _⟩ => ⟨S_, .f32⟩
  | .hbm, ⟨29, _⟩ => ⟨S8x8192x2816, .f32⟩
  | .hbm, ⟨30, _⟩ => ⟨S8x8192x2816, .f32⟩
  | .hbm, ⟨31, _⟩ => ⟨S8x8192x2816, .f32⟩
  | .hbm, ⟨32, _⟩ => ⟨S8x8192x2816, .f32⟩
  | .hbm, ⟨33, _⟩ => ⟨S8x8192x2816, .f32⟩
  | .hbm, ⟨34, _⟩ => ⟨S8x8192x1024, .f32⟩
  | .hbm, ⟨35, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Merge.lean ====
abbrev S8x8192x1024 : Shape := ⟨3, ![8, 8192, 1024]⟩
abbrev S8x8192x512 : Shape := ⟨3, ![8, 8192, 512]⟩
abbrev S8192x4096 : Shape := ⟨2, ![8192, 4096]⟩
abbrev S1024 : Shape := ⟨1, ![1024]⟩
abbrev S1024x6656 : Shape := ⟨2, ![1024, 6656]⟩
abbrev S512x1024 : Shape := ⟨2, ![512, 1024]⟩
abbrev S1024x1024 : Shape := ⟨2, ![1024, 1024]⟩
abbrev S1x1024 : Shape := ⟨2, ![1, 1024]⟩
abbrev S1024x3072 : Shape := ⟨2, ![1024, 3072]⟩
abbrev S1x512x1024 : Shape := ⟨3, ![1, 512, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S8192x4096, .bf16⟩
  | .hbm, ⟨4, _⟩ => ⟨S1024, .f32⟩
  | .hbm, ⟨5, _⟩ => ⟨S1024x6656, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1x1024, .f32⟩
  | .hbm, ⟨11, _⟩ => ⟨S1024x6656, .bf16⟩
  | .hbm, ⟨12, _⟩ => ⟨S1024x3072, .bf16⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .bf16⟩
  | .local _ .vmem, ⟨7, _⟩ => ⟨S512x512, .bf16⟩
  | .local _ .vmem, ⟨8, _⟩ => ⟨S1x1024, .f32⟩
  | .local _ .vmem, ⟨9, _⟩ => ⟨S1024x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x512x1024, .f32⟩
  | .local _ .vmem, ⟨15, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S8x8192x1024 : Shape := ⟨3, ![8, 8192, 1024]⟩
abbrev S8x8192x512 : Shape := ⟨3, ![8, 8192, 512]⟩
abbrev S8192x4096 : Shape := ⟨2, ![8192, 4096]⟩
abbrev S1024 : Shape := ⟨1, ![1024]⟩
abbrev S1024x6656 : Shape := ⟨2, ![1024, 6656]⟩
abbrev S512x1024 : Shape := ⟨2, ![512, 1024]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x6656 : Shape := ⟨3, ![8, 8192, 6656]⟩
abbrev S8x8192x3072 : Shape := ⟨3, ![8, 8192, 3072]⟩
abbrev S8x8192x3x1024 : Shape := ⟨4, ![8, 8192, 3, 1024]⟩
abbrev S8192x8x512 : Shape := ⟨3, ![8192, 8, 512]⟩
abbrev S8x8192x1x1024 : Shape := ⟨4, ![8, 8192, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S8192x4096, .bf16⟩
  | .hbm, ⟨4, _⟩ => ⟨S1024, .f32⟩
  | .hbm, ⟨5, _⟩ => ⟨S1024x6656, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8x8192x1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1, .f32⟩
  | .hbm, ⟨21, _⟩ => ⟨S8x8192x1024, .f32⟩
  | .hbm, ⟨22, _⟩ => ⟨S8x8192x1024, .f32⟩
  | .hbm, ⟨23, _⟩ => ⟨S1x1x1024, .f32⟩
  | .hbm, ⟨24, _⟩ => ⟨S8x8192x1024, .f32⟩
  | .hbm, ⟨25, _⟩ => ⟨S8x8192x1024, .f32⟩
  | .hbm, ⟨26, _⟩ => ⟨S8x8192x6656, .f32⟩
  | .hbm, ⟨27, _⟩ => ⟨S8x8192x3072, .f32⟩
  | .hbm, ⟨28, _⟩ => ⟨S8x8192x3072, .f32⟩
  | .hbm, ⟨29, _⟩ => ⟨S8x8192x3072, .f32⟩
  | .hbm, ⟨30, _⟩ => ⟨S_, .f32⟩
  | .hbm, ⟨31, _⟩ => ⟨S8x8192x3072, .f32⟩
  | .hbm, ⟨32, _⟩ => ⟨S8x8192x3072, .f32⟩
  | .hbm, ⟨33, _⟩ => ⟨S_, .f32⟩
  | .hbm, ⟨34, _⟩ => ⟨S8x8192x3072, .f32⟩
  | .hbm, ⟨35, _⟩ => ⟨S8x8192x3072, .f32⟩
  | .hbm, ⟨36, _⟩ => ⟨S8x8192x3x1024, .f32⟩
  | .hbm, ⟨37, _⟩ => ⟨S8192x4096, .f32⟩
  | .hbm, ⟨38, _⟩ => ⟨S8192x8x512, .f32⟩
  | .hbm, ⟨39, _⟩ => ⟨S8x8192x512, .f32⟩
  | .hbm, ⟨40, _⟩ => ⟨S8x8192x1x1024, .f32⟩
  | .hbm, ⟨41, _⟩ => ⟨S8x8192x1024, .f32⟩
  | .hbm, ⟨42, _⟩ => ⟨S8x8192x512, .f32⟩
  | .hbm, ⟨43, _⟩ => ⟨S8x8192x1024, .f32⟩
  | .hbm, ⟨44, _⟩ => ⟨S8x8192x1024, .f32⟩
  | .hbm, ⟨45, _⟩ => ⟨S8x8192x1x1024, .f32⟩
  | .hbm, ⟨46, _⟩ => ⟨S8x8192x1024, .f32⟩
  | .hbm, ⟨47, _⟩ => ⟨S8x8192x512, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S8x8192x1x1024, .f32⟩
  | .hbm, ⟨52, _⟩ => ⟨S8x8192x1024, .f32⟩
  | .hbm, ⟨53, _⟩ => ⟨S8x8192x1024, .f32⟩
  | .hbm, ⟨54, _⟩ => ⟨S8x8192x1024, .f32⟩
  | .hbm, ⟨55, _⟩ => ⟨S8x8192x1024, .f32⟩
  | .hbm, ⟨56, _⟩ => ⟨S8x8192x1024, .f32⟩
  | .hbm, ⟨57, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proj.lean ====
abbrev S8x8192x1024 : Shape := ⟨3, ![8, 8192, 1024]⟩
abbrev S1024 : Shape := ⟨1, ![1024]⟩
abbrev S1024x6656 : Shape := ⟨2, ![1024, 6656]⟩
abbrev S1x1024 : Shape := ⟨2, ![1, 1024]⟩
abbrev S1024x3584 : Shape := ⟨2, ![1024, 3584]⟩
abbrev S8x8192x512 : Shape := ⟨3, ![8, 8192, 512]⟩
abbrev S2x8x8192x4x128 : Shape := ⟨5, ![2, 8, 8192, 4, 128]⟩
abbrev S8x16x512x512 : Shape := ⟨4, ![8, 16, 512, 512]⟩
abbrev S8x512x512 : Shape := ⟨3, ![8, 512, 512]⟩
abbrev S8192x4096 : Shape := ⟨2, ![8192, 4096]⟩
abbrev S1x512x1024 : Shape := ⟨3, ![1, 512, 1024]⟩
abbrev S1x512x512 : Shape := ⟨3, ![1, 512, 512]⟩
abbrev S2x1x512x4x128 : Shape := ⟨5, ![2, 1, 512, 4, 128]⟩
abbrev S1x1x512x512 : Shape := ⟨4, ![1, 1, 512, 512]⟩
abbrev S512x512 : Shape := ⟨2, ![512, 512]⟩
abbrev S512x4x128 : Shape := ⟨3, ![512, 4, 128]⟩
abbrev S1x1x512x4x128 : Shape := ⟨5, ![1, 1, 512, 4, 128]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩
abbrev S512x1x128 : Shape := ⟨3, ![512, 1, 128]⟩

abbrev nBuf : Space → Nat
  | .hbm => 17
  | .vmem => 26
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x6656, .f32⟩
  | .hbm, ⟨3, _⟩ => ⟨S1x1024, .f32⟩
  | .hbm, ⟨4, _⟩ => ⟨S1024x6656, .bf16⟩
  | .hbm, ⟨5, _⟩ => ⟨S1024x3584, .bf16⟩
  | .hbm, ⟨6, _⟩ => ⟨S8x8192x512, .bf16⟩
  | .hbm, ⟨7, _⟩ => ⟨S2x8x8192x4x128, .f32⟩
  | .hbm, ⟨8, _⟩ => ⟨S2x8x8192x4x128, .f32⟩
  | .hbm, ⟨9, _⟩ => ⟨S8x8192x512, .bf16⟩
  | .hbm, ⟨10, _⟩ => ⟨S8x16x512x512, .bf16⟩
  | .hbm, ⟨11, _⟩ => ⟨S8x8192x512, .bf16⟩
  | .hbm, ⟨12, _⟩ => ⟨S8x512x512, .f32⟩
  | .hbm, ⟨13, _⟩ => ⟨S8x512x512, .f32⟩
  | .hbm, ⟨14, _⟩ => ⟨S8x8192x512, .bf16⟩
  | .hbm, ⟨15, _⟩ => ⟨S8x16x512x512, .bf16⟩
  | .hbm, ⟨16, _⟩ => ⟨S8192x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3584, .bf16⟩
  | .local _ .vmem, ⟨4, _⟩ => ⟨S1x512x512, .bf16⟩
  | .local _ .vmem, ⟨5, _⟩ => ⟨S1x512x512, .bf16⟩
  | .local _ .vmem, ⟨6, _⟩ => ⟨S2x1x512x4x128, .f32⟩
  | .local _ .vmem, ⟨7, _⟩ => ⟨S2x1x512x4x128, .f32⟩
  | .local _ .vmem, ⟨8, _⟩ => ⟨S2x1x512x4x128, .f32⟩
  | .local _ .vmem, ⟨9, _⟩ => ⟨S2x1x512x4x128, .f32⟩
  | .local _ .vmem, ⟨10, _⟩ => ⟨S1x512x512, .bf16⟩
  | .local _ .vmem, ⟨11, _⟩ => ⟨S1x512x512, .bf16⟩
  | .local _ .vmem, ⟨12, _⟩ => ⟨S1x1x512x512, .bf16⟩
  | .local _ .vmem, ⟨13, _⟩ => ⟨S1x1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .bf16⟩
  | .local _ .vmem, ⟨21, _⟩ => ⟨S1x512x512, .bf16⟩
  | .local _ .vmem, ⟨22, _⟩ => ⟨S1x1x512x512, .bf16⟩
  | .local _ .vmem, ⟨23, _⟩ => ⟨S1x1x512x512, .bf16⟩
  | .local _ .vmem, ⟨24, _⟩ => ⟨S512x512, .f32⟩
  | .local _ .vmem, ⟨25, _⟩ => ⟨S512x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_v3_7 : Ref sig .tc := ⟨.hbm, 13, rfl⟩
abbrev main_v3_8 : Ref sig .tc := ⟨.hbm, 14, rfl⟩
abbrev main_v3_9 : Ref sig .tc := ⟨.hbm, 15, rfl⟩
abbrev main_v3_10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x512x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjRefIdeal.lean ====
abbrev S8x8192x1024 : Shape := ⟨3, ![8, 8192, 1024]⟩
abbrev S1024 : Shape := ⟨1, ![1024]⟩
abbrev S1024x6656 : Shape := ⟨2, ![1024, 6656]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x6656 : Shape := ⟨3, ![8, 8192, 6656]⟩
abbrev S8x8192x512 : Shape := ⟨3, ![8, 8192, 512]⟩
abbrev S8x8192x4x128 : Shape := ⟨4, ![8, 8192, 4, 128]⟩
abbrev S1x8x8192x4x128 : Shape := ⟨5, ![1, 8, 8192, 4, 128]⟩
abbrev S2x8x8192x4x128 : Shape := ⟨5, ![2, 8, 8192, 4, 128]⟩
abbrev S8x16x512x512 : Shape := ⟨4, ![8, 16, 512, 512]⟩
abbrev S8x512x512 : Shape := ⟨3, ![8, 512, 512]⟩
abbrev S8192x8x512 : Shape := ⟨3, ![8192, 8, 512]⟩
abbrev S8192x4096 : Shape := ⟨2, ![8192, 4096]⟩

abbrev nBuf : Space → Nat
  | .hbm => 59
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x6656, .f32⟩
  | .hbm, ⟨3, _⟩ => ⟨S8x8192x1024, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S8x8192x1, .f32⟩
  | .hbm, ⟨14, _⟩ => ⟨S8x8192x1024, .f32⟩
  | .hbm, ⟨15, _⟩ => ⟨S8x8192x1024, .f32⟩
  | .hbm, ⟨16, _⟩ => ⟨S1x1x1024, .f32⟩
  | .hbm, ⟨17, _⟩ => ⟨S8x8192x1024, .f32⟩
  | .hbm, ⟨18, _⟩ => ⟨S8x8192x1024, .f32⟩
  | .hbm, ⟨19, _⟩ => ⟨S8x8192x6656, .f32⟩
  | .hbm, ⟨20, _⟩ => ⟨S8x8192x512, .f32⟩
  | .hbm, ⟨21, _⟩ => ⟨S8x8192x512, .f32⟩
  | .hbm, ⟨22, _⟩ => ⟨S8x8192x512, .f32⟩
  | .hbm, ⟨23, _⟩ => ⟨S8x8192x512, .f32⟩
  | .hbm, ⟨24, _⟩ => ⟨S8x8192x512, .f32⟩
  | .hbm, ⟨25, _⟩ => ⟨S8x8192x512, .f32⟩
  | .hbm, ⟨26, _⟩ => ⟨S8x8192x512, .f32⟩
  | .hbm, ⟨27, _⟩ => ⟨S_, .f32⟩
  | .hbm, ⟨28, _⟩ => ⟨S8x8192x512, .f32⟩
  | .hbm, ⟨29, _⟩ => ⟨S8x8192x512, .f32⟩
  | .hbm, ⟨30, _⟩ => ⟨S8x8192x512, .bf16⟩
  | .hbm, ⟨31, _⟩ => ⟨S8x8192x4x128, .f32⟩
  | .hbm, ⟨32, _⟩ => ⟨S_, .f32⟩
  | .hbm, ⟨33, _⟩ => ⟨S8x8192x4x128, .f32⟩
  | .hbm, ⟨34, _⟩ => ⟨S1x8x8192x4x128, .f32⟩
  | .hbm, ⟨35, _⟩ => ⟨S1x8x8192x4x128, .f32⟩
  | .hbm, ⟨36, _⟩ => ⟨S2x8x8192x4x128, .f32⟩
  | .hbm, ⟨37, _⟩ => ⟨S8x8192x4x128, .f32⟩
  | .hbm, ⟨38, _⟩ => ⟨S_, .f32⟩
  | .hbm, ⟨39, _⟩ => ⟨S8x8192x4x128, .f32⟩
  | .hbm, ⟨40, _⟩ => ⟨S1x8x8192x4x128, .f32⟩
  | .hbm, ⟨41, _⟩ => ⟨S1x8x8192x4x128, .f32⟩
  | .hbm, ⟨42, _⟩ => ⟨S2x8x8192x4x128, .f32⟩
  | .hbm, ⟨43, _⟩ => ⟨S8x8192x512, .bf16⟩
  | .hbm, ⟨44, _⟩ => ⟨S8x16x512x512, .f32⟩
  | .hbm, ⟨45, _⟩ => ⟨S8x16x512x512, .f32⟩
  | .hbm, ⟨46, _⟩ => ⟨S8x16x512x512, .bf16⟩
  | .hbm, ⟨47, _⟩ => ⟨S_, .f32⟩
  | .hbm, ⟨48, _⟩ => ⟨S8x8192x512, .f32⟩
  | .hbm, ⟨49, _⟩ => ⟨S8x8192x512, .f32⟩
  | .hbm, ⟨50, _⟩ => ⟨S8x8192x512, .bf16⟩
  | .hbm, ⟨51, _⟩ => ⟨S8x512x512, .f32⟩
  | .hbm, ⟨52, _⟩ => ⟨S8x512x512, .f32⟩
  | .hbm, ⟨53, _⟩ => ⟨S8x8192x512, .bf16⟩
  | .hbm, ⟨54, _⟩ => ⟨S8x16x512x512, .f32⟩
  | .hbm, ⟨55, _⟩ => ⟨S8x16x512x512, .f32⟩
  | .hbm, ⟨56, _⟩ => ⟨S8x16x512x512, .bf16⟩
  | .hbm, ⟨57, _⟩ => ⟨S8192x8x512, .f32⟩
  | .hbm, ⟨58, _⟩ => ⟨S8192x4096, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== ProjNext.lean ====
abbrev S8x8192x1024 : Shape := ⟨3, ![8, 8192, 1024]⟩
abbrev S1024 : Shape := ⟨1, ![1024]⟩
abbrev S1024x6656 : Shape := ⟨2, ![1024, 6656]⟩
abbrev S2x8x8192x4x128 : Shape := ⟨5, ![2, 8, 8192, 4, 128]⟩
abbrev S1x1024 : Shape := ⟨2, ![1, 1024]⟩
abbrev S1024x3584 : Shape := ⟨2, ![1024, 3584]⟩
abbrev S8x8192x512 : Shape := ⟨3, ![8, 8192, 512]⟩
abbrev S8x16x512x512 : Shape := ⟨4, ![8, 16, 512, 512]⟩
abbrev S8x512x512 : Shape := ⟨3, ![8, 512, 512]⟩
abbrev S8192x4096 : Shape := ⟨2, ![8192, 4096]⟩
abbrev S1x512x1024 : Shape := ⟨3, ![1, 512, 1024]⟩
abbrev S1x512x512 : Shape := ⟨3, ![1, 512, 512]⟩
abbrev S1x1x512x4x128 : Shape := ⟨5, ![1, 1, 512, 4, 128]⟩
abbrev S1x1x512x512 : Shape := ⟨4, ![1, 1, 512, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩
abbrev S1x1x512x1x128 : Shape := ⟨5, ![1, 1, 512, 1, 128]⟩

abbrev nBuf : Space → Nat
  | .hbm => 19
  | .vmem => 26
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x6656, .f32⟩
  | .hbm, ⟨3, _⟩ => ⟨S2x8x8192x4x128, .f32⟩
  | .hbm, ⟨4, _⟩ => ⟨S2x8x8192x4x128, .f32⟩
  | .hbm, ⟨5, _⟩ => ⟨S1x1024, .f32⟩
  | .hbm, ⟨6, _⟩ => ⟨S1024x6656, .bf16⟩
  | .hbm, ⟨7, _⟩ => ⟨S1024x3584, .bf16⟩
  | .hbm, ⟨8, _⟩ => ⟨S8x8192x512, .bf16⟩
  | .hbm, ⟨9, _⟩ => ⟨S2x8x8192x4x128, .f32⟩
  | .hbm, ⟨10, _⟩ => ⟨S2x8x8192x4x128, .f32⟩
  | .hbm, ⟨11, _⟩ => ⟨S8x8192x512, .bf16⟩
  | .hbm, ⟨12, _⟩ => ⟨S8x16x512x512, .bf16⟩
  | .hbm, ⟨13, _⟩ => ⟨S8x8192x512, .bf16⟩
  | .hbm, ⟨14, _⟩ => ⟨S8x512x512, .f32⟩
  | .hbm, ⟨15, _⟩ => ⟨S8x512x512, .f32⟩
  | .hbm, ⟨16, _⟩ => ⟨S8x8192x512, .bf16⟩
  | .hbm, ⟨17, _⟩ => ⟨S8x16x512x512, .bf16⟩
  | .hbm, ⟨18, _⟩ => ⟨S8192x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3584, .bf16⟩
  | .local _ .vmem, ⟨4, _⟩ => ⟨S1x512x512, .bf16⟩
  | .local _ .vmem, ⟨5, _⟩ => ⟨S1x512x512, .bf16⟩
  | .local _ .vmem, ⟨6, _⟩ => ⟨S1x1x512x4x128, .f32⟩
  | .local _ .vmem, ⟨7, _⟩ => ⟨S1x1x512x4x128, .f32⟩
  | .local _ .vmem, ⟨8, _⟩ => ⟨S1x1x512x4x128, .f32⟩
  | .local _ .vmem, ⟨9, _⟩ => ⟨S1x1x512x4x128, .f32⟩
  | .local _ .vmem, ⟨10, _⟩ => ⟨S1x512x512, .bf16⟩
  | .local _ .vmem, ⟨11, _⟩ => ⟨S1x512x512, .bf16⟩
  | .local _ .vmem, ⟨12, _⟩ => ⟨S1x1x512x512, .bf16⟩
  | .local _ .vmem, ⟨13, _⟩ => ⟨S1x1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .bf16⟩
  | .local _ .vmem, ⟨21, _⟩ => ⟨S1x512x512, .bf16⟩
  | .local _ .vmem, ⟨22, _⟩ => ⟨S1x1x512x512, .bf16⟩
  | .local _ .vmem, ⟨23, _⟩ => ⟨S1x1x512x512, .bf16⟩
  | .local _ .vmem, ⟨24, _⟩ => ⟨S512x512, .f32⟩
  | .local _ .vmem, ⟨25, _⟩ => ⟨S512x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev main_v3_7 : Ref sig .tc := ⟨.hbm, 15, rfl⟩
abbrev main_v3_8 : Ref sig .tc := ⟨.hbm, 16, rfl⟩
abbrev main_v3_9 : Ref sig .tc := ⟨.hbm, 17, rfl⟩
abbrev main_v3_10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjNextRefIdeal.lean ====
abbrev S8x8192x1024 : Shape := ⟨3, ![8, 8192, 1024]⟩
abbrev S1024 : Shape := ⟨1, ![1024]⟩
abbrev S1024x6656 : Shape := ⟨2, ![1024, 6656]⟩
abbrev S2x8x8192x4x128 : Shape := ⟨5, ![2, 8, 8192, 4, 128]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x6656 : Shape := ⟨3, ![8, 8192, 6656]⟩
abbrev S8x8192x512 : Shape := ⟨3, ![8, 8192, 512]⟩
abbrev S1x8x8192x4x128 : Shape := ⟨5, ![1, 8, 8192, 4, 128]⟩
abbrev S8x8192x4x128 : Shape := ⟨4, ![8, 8192, 4, 128]⟩
abbrev S8x16x512x512 : Shape := ⟨4, ![8, 16, 512, 512]⟩
abbrev S8x512x512 : Shape := ⟨3, ![8, 512, 512]⟩
abbrev S8192x8x512 : Shape := ⟨3, ![8192, 8, 512]⟩
abbrev S8192x4096 : Shape := ⟨2, ![8192, 4096]⟩

abbrev nBuf : Space → Nat
  | .hbm => 61
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x6656, .f32⟩
  | .hbm, ⟨3, _⟩ => ⟨S2x8x8192x4x128, .f32⟩
  | .hbm, ⟨4, _⟩ => ⟨S2x8x8192x4x128, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x6656, .f32⟩
  | .hbm, ⟨22, _⟩ => ⟨S8x8192x512, .f32⟩
  | .hbm, ⟨23, _⟩ => ⟨S8x8192x512, .f32⟩
  | .hbm, ⟨24, _⟩ => ⟨S8x8192x512, .f32⟩
  | .hbm, ⟨25, _⟩ => ⟨S8x8192x512, .f32⟩
  | .hbm, ⟨26, _⟩ => ⟨S8x8192x512, .f32⟩
  | .hbm, ⟨27, _⟩ => ⟨S8x8192x512, .f32⟩
  | .hbm, ⟨28, _⟩ => ⟨S8x8192x512, .f32⟩
  | .hbm, ⟨29, _⟩ => ⟨S_, .f32⟩
  | .hbm, ⟨30, _⟩ => ⟨S8x8192x512, .f32⟩
  | .hbm, ⟨31, _⟩ => ⟨S8x8192x512, .f32⟩
  | .hbm, ⟨32, _⟩ => ⟨S8x8192x512, .bf16⟩
  | .hbm, ⟨33, _⟩ => ⟨S1x8x8192x4x128, .f32⟩
  | .hbm, ⟨34, _⟩ => ⟨S8x8192x4x128, .f32⟩
  | .hbm, ⟨35, _⟩ => ⟨S8x8192x4x128, .f32⟩
  | .hbm, ⟨36, _⟩ => ⟨S1x8x8192x4x128, .f32⟩
  | .hbm, ⟨37, _⟩ => ⟨S1x8x8192x4x128, .f32⟩
  | .hbm, ⟨38, _⟩ => ⟨S2x8x8192x4x128, .f32⟩
  | .hbm, ⟨39, _⟩ => ⟨S1x8x8192x4x128, .f32⟩
  | .hbm, ⟨40, _⟩ => ⟨S8x8192x4x128, .f32⟩
  | .hbm, ⟨41, _⟩ => ⟨S8x8192x4x128, .f32⟩
  | .hbm, ⟨42, _⟩ => ⟨S1x8x8192x4x128, .f32⟩
  | .hbm, ⟨43, _⟩ => ⟨S1x8x8192x4x128, .f32⟩
  | .hbm, ⟨44, _⟩ => ⟨S2x8x8192x4x128, .f32⟩
  | .hbm, ⟨45, _⟩ => ⟨S8x8192x512, .bf16⟩
  | .hbm, ⟨46, _⟩ => ⟨S8x16x512x512, .f32⟩
  | .hbm, ⟨47, _⟩ => ⟨S8x16x512x512, .f32⟩
  | .hbm, ⟨48, _⟩ => ⟨S8x16x512x512, .bf16⟩
  | .hbm, ⟨49, _⟩ => ⟨S_, .f32⟩
  | .hbm, ⟨50, _⟩ => ⟨S8x8192x512, .f32⟩
  | .hbm, ⟨51, _⟩ => ⟨S8x8192x512, .f32⟩
  | .hbm, ⟨52, _⟩ => ⟨S8x8192x512, .bf16⟩
  | .hbm, ⟨53, _⟩ => ⟨S8x512x512, .f32⟩
  | .hbm, ⟨54, _⟩ => ⟨S8x512x512, .f32⟩
  | .hbm, ⟨55, _⟩ => ⟨S8x8192x512, .bf16⟩
  | .hbm, ⟨56, _⟩ => ⟨S8x16x512x512, .f32⟩
  | .hbm, ⟨57, _⟩ => ⟨S8x16x512x512, .f32⟩
  | .hbm, ⟨58, _⟩ => ⟨S8x16x512x512, .bf16⟩
  | .hbm, ⟨59, _⟩ => ⟨S8192x8x512, .f32⟩
  | .hbm, ⟨60, _⟩ => ⟨S8192x4096, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩

abbrev nD : Nat := 1
abbrev τ : Topo := Topo.v7x

variable {F : FTy → Type} [FloatOps F]
-- ==== Proof.Math.lean ====
/- The layer's feed-forward arithmetic on single rows of extended reals: the normalisation of a row, one gated hidden
   unit, and the gated feed-forward sum; with the sum over the hidden units taken in the kernels' slices. -/
module

public import Idealize.ShloMosaic.Lib.Pointwise

@[expose] public section

noncomputable section

namespace Cert.Ffw

open Idealize.ShloMosaic

/-- A row divided by the root of its mean square (1024 entries, and the small constant added), times the weights. -/
def normed {K : ℕ} (x g : Fin K → EReal) (k : Fin K) : EReal :=
  x k * Ideal.rsqrt (Ideal.div (∑ i, x i * x i) (Ideal.ofBits FTy.f32 1149239296#32) + Ideal.ofBits FTy.f32 897988541#32) * g k

/-- Hidden unit `f`: the first projection through `a / (1 + exp (-a))`, times the second projection. -/
def gated {K N : ℕ} (h : Fin K → EReal) (w1 w3 : Fin K → Fin N → EReal) (f : Fin N) : EReal :=
  (∑ k, h k * w1 k f) * Ideal.div 1 (1 + Ideal.exp (-(∑ k, h k * w1 k f))) * ∑ k, h k * w3 k f

/-- The gated feed-forward's output entry `j`. -/
def swiglu {K N M : ℕ} (h : Fin K → EReal) (w1 w3 : Fin K → Fin N → EReal) (w2 : Fin N → Fin M → EReal) (j : Fin M) : EReal :=
  ∑ f, gated h w1 w3 f * w2 f j

/-- A sum over `a + b` indices is the sum over the first `a` and then over the other `b`. -/
theorem sum_cut {n : ℕ} (a b : ℕ) (h : a + b = n) (f : Fin n → EReal) :
    ∑ x, f x = (∑ x : Fin a, f ⟨x.val, by omega⟩) + ∑ x : Fin b, f ⟨a + x.val, by omega⟩ := by
  subst h
  rw [Fin.sum_univ_add]
  rfl

/-- The sum over 1408 hidden units in slices of 512, 512 and 384. -/
theorem sum_1408 (f : Fin 1408 → EReal) :
    ∑ x, f x = (∑ x : Fin 512, f ⟨x.val, by omega⟩) + (∑ x : Fin 512, f ⟨512 + x.val, by omega⟩) + ∑ x : Fin 384, f ⟨1024 + x.val, by omega⟩ := by
  rw [sum_cut 1024 384 rfl, sum_cut 512 512 rfl]

/-- The sum over 2816 hidden units in five slices of 512 and one of 256. -/
theorem sum_2816 (f : Fin 2816 → EReal) :
    ∑ x, f x = (∑ x : Fin 512, f ⟨x.val, by omega⟩) + (∑ x : Fin 512, f ⟨512 + x.val, by omega⟩) + (∑ x : Fin 512, f ⟨1024 + x.val, by omega⟩)
      + (∑ x : Fin 512, f ⟨1536 + x.val, by omega⟩) + (∑ x : Fin 512, f ⟨2048 + x.val, by omega⟩) + ∑ x : Fin 256, f ⟨2560 + x.val, by omega⟩ := by
  rw [sum_cut 2560 256 rfl, sum_cut 2048 512 rfl, sum_cut 1536 512 rfl, sum_cut 1024 512 rfl, sum_cut 512 512 rfl]

end Cert.Ffw

end
-- ==== Proof.ExpertsIdealRun.lean ====
/-
  The experts' kernel body on one grid point. The body reads from a prefetched table how many rows of the tile are
  used: with a positive count it computes the expert's layer of the tile, with a count of zero it stores zeros. Each
  of the two is run here once, on any staging buffers.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Held

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The kernel body at point `t`, on what the pipeline calls it with. -/
abbrev bodyAt0 (a : (pcfg0 (F := F)).Adm) (t : Fin (cfg0 a).N) : Prog (TpuEff nD τ sig (Elt F) Λ₀ .tc) PUnit :=
  cc0_moe_experts (grid0.coords t) (Memref.whole main_arg5) (Memref.isWhole_whole _) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables: each expert's block of weights that a table names lies inside its array. -/
abbrev Ok : Prop := ok0 (F := F) (tbl m)
/-- The tables' contents with the proof that they are admissible, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S264 .i32 := Memref.whole main_arg5
abbrev htbM0_0 : tbM0_0.IsWhole := Memref.isWhole_whole _
abbrev tbM0_1 : Memref sig .tc .smem S264 .i32 := Memref.whole main_arg6
abbrev htbM0_1 : tbM0_1.IsWhole := Memref.isWhole_whole _

/-- The contents type of a table's buffer on core `c`, and that buffer held for reading (half the full share; the
    pipeline keeps the other half). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables the region hands the body, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, for any proof data whose array is the region's
    and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data whose array is the region's
    and whose body leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data whose array is the region's
    and whose body leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data whose array is the region's
    and whose body leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data whose array is the region's
    and whose body leaves the block in place. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run to the launch theorem's postcondition leaves every argument array as it was launched. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The staging memrefs -/

/-- One staging buffer of the output's window, through which the contents of any of them are stated. -/
abbrev VO0_5 : View sig .tc .vmem S512x1024 .f32 := (Memref.whole cc0_stg5_0 : Memref sig .tc .vmem S512x1024 .f32).view
/-- Each window's staging memref at point `t`. -/
abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1408 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1408 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1408x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .f32 := spec0_5.stage ((cfgM m hO).slots t 5)
abbrev hs0_5 (hO : Ok m) (t : Fin (cfgM m hO).N) : (ms0_5 m hO t).IsWhole := hstage0_5 (((cfgM m hO).slots t 5).cast nbuf0_5)

/-! ## The body, run -/

/-- The number of used rows of point `i`'s tile, as the body reads it from its table. -/
abbrev rowsAt (c : Dev nD) (i : grid0.Coords) (xt1 : TbBuf0 (F := F) c tbM0_1) : BitVec 32 :=
  View.readAt (Elt F) (tbM0_1).view (Rect.unit (s := S264) (k0_off1 i) S1.size (k0_off1_inb i)).toLoadRect xt1 (Shape.Idx.first (numel1_S1.symm ▸ Nat.one_pos))

/-- A count is positive or zero, not both. -/
theorem not_zero_of_pos (v : BitVec 32) (h : k0_cond1 v = 1#1) : ¬ (k0_cond2 v = 1#1) := by
  intro h2
  have hv : v = 0#32 := by
    by_contra hne
    have : Scalar.cmpi .eq v 0#32 = 0#1 := by
      show BitVec.ofBool (v == 0#32) = 0#1
      rw [beq_eq_false_iff_ne.mpr hne]; rfl
    unfold k0_cond2 at h2
    simp only [this] at h2
    exact absurd h2 (by decide)
  subst hv
  exact absurd h (by decide)

set_option backward.proofsInPublic true in
set_option maxHeartbeats 2000000 in
/-- A tile with used rows: what the body's store leaves in the output's staging buffer, with the proof that the body
    runs from the inputs and the tables to the same inputs and tables and that buffer. -/
noncomputable def used (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole)
    (x0 : Vec F S512x1024 .f32) (x1 : Vec F S1x1024 .f32) (x2 : Vec F S1x1024x1408 .bf16) (x3 : Vec F S1x1024x1408 .bf16) (x4 : Vec F S1x1408x1024 .bf16) (xt0 : TbBuf0 (F := F) c tbM0_0) (xt1 : TbBuf0 (F := F) c tbM0_1)
    (hpos : k0_cond1 (rowsAt c i xt1) = 1#1) (hnz : ¬ (k0_cond2 (rowsAt c i xt1) = 1#1)) :
    { L5 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec! (disch := first | (guard_target = k0_cond1 _ = _; exact hpos) | (guard_target = ¬(k0_cond2 _ = _); exact hnz))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HT0]; · iexact HT0
    iexact HT1

set_option backward.proofsInPublic true in
set_option maxHeartbeats 2000000 in
/-- A tile with no used row: the body stores zeros. -/
noncomputable def unused (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole)
    (x0 : Vec F S512x1024 .f32) (x1 : Vec F S1x1024 .f32) (x2 : Vec F S1x1024x1408 .bf16) (x3 : Vec F S1x1024x1408 .bf16) (x4 : Vec F S1x1408x1024 .bf16) (xt0 : TbBuf0 (F := F) c tbM0_0) (xt1 : TbBuf0 (F := F) c tbM0_1)
    (hnp : ¬ (k0_cond1 (rowsAt c i xt1) = 1#1)) (hz : k0_cond2 (rowsAt c i xt1) = 1#1) :
    { L5 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec! (disch := first | (guard_target = ¬(k0_cond1 _ = _); exact hnp) | (guard_target = k0_cond2 _ = _; exact hz))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HT0]; · iexact HT0
    iexact HT1

end Cert.ExpertsIdeal.Held

end
-- ==== Proof.ExpertsIdealPipe.lean ====
/-
  The pipeline of the experts' kernel: what its arrays hold after every grid point, and its run, for every contents of the
  two prefetched tables whose experts are in range and whose row counts aren't negative.
-/
module

public import proofs.«01_k».proof.Proof.ExpertsIdealRun
public import Idealize.ShloMosaic.Lib.Claim

@[expose] public section

set_option maxRecDepth 16384

noncomputable section

namespace Cert.ExpertsIdeal.Held

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The store covers the output's block. -/
theorem used_cover (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole)
    (x0 : Vec F S512x1024 .f32) (x1 : Vec F S1x1024 .f32) (x2 : Vec F S1x1024x1408 .bf16) (x3 : Vec F S1x1024x1408 .bf16) (x4 : Vec F S1x1408x1024 .bf16) (xt0 : TbBuf0 (F := F) c tbM0_0) (xt1 : TbBuf0 (F := F) c tbM0_1) (h1 : k0_cond1 (rowsAt c i xt1) = 1#1) (h2 : ¬ (k0_cond2 (rowsAt c i xt1) = 1#1)) (y : S512x1024.Idx) :
    ∃ pc ∈ (used c i arg3 harg3 arg4 harg4 arg5 harg5 arg6 harg6 arg7 harg7 arg8 harg8 x0 x1 x2 x3 x4 xt0 xt1 h1 h2).1, y ∈ pc.1.set :=
  View.cover_of_tiledL (used c i arg3 harg3 arg4 harg4 arg5 harg5 arg6 harg6 arg7 harg7 arg8 harg8 x0 x1 x2 x3 x4 xt0 xt1 h1 h2).1 S512x1024.size (by sl_kernel_rfl) y

/-- The store covers the output's block. -/
theorem unused_cover (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole)
    (x0 : Vec F S512x1024 .f32) (x1 : Vec F S1x1024 .f32) (x2 : Vec F S1x1024x1408 .bf16) (x3 : Vec F S1x1024x1408 .bf16) (x4 : Vec F S1x1408x1024 .bf16) (xt0 : TbBuf0 (F := F) c tbM0_0) (xt1 : TbBuf0 (F := F) c tbM0_1) (h1 : ¬ (k0_cond1 (rowsAt c i xt1) = 1#1)) (h2 : k0_cond2 (rowsAt c i xt1) = 1#1) (y : S512x1024.Idx) :
    ∃ pc ∈ (unused c i arg3 harg3 arg4 harg4 arg5 harg5 arg6 harg6 arg7 harg7 arg8 harg8 x0 x1 x2 x3 x4 xt0 xt1 h1 h2).1, y ∈ pc.1.set :=
  View.cover_of_tiledL (unused c i arg3 harg3 arg4 harg4 arg5 harg5 arg6 harg6 arg7 harg7 arg8 harg8 x0 x1 x2 x3 x4 xt0 xt1 h1 h2).1 S512x1024.size (by sl_kernel_rfl) y

/-- Every tile's count of used rows is positive or zero. -/
abbrev Live : Prop := ∀ (c : Dev nD) (i : grid0.Coords), k0_cond1 (rowsAt c i (tbl m 1)) = 1#1 ∨ k0_cond2 (rowsAt c i (tbl m 1)) = 1#1

/-- The word the pipeline's idle test looks up is the one the body reads. -/
theorem atD_rows (i : grid0.Coords) : (tbl m).atD 1 (k0_off1 i) = rowsAt (0 : Dev nD) i (tbl m 1) := by
  have h : ∀ a : Fin (pre0.ref 1).ty.shape.rank, k0_off1 i a + 1 ≤ (pre0.ref 1).ty.shape.size a := by
    intro (a : Fin 1)
    obtain rfl : a = (0 : Fin 1) := Subsingleton.elim _ _
    exact k0_off1_inb i 0
  unfold Pipeline.Prefetch.Contents.atD
  exact (dif_pos h).trans rfl

/-- So the body stores the output's block at every point. -/
theorem not_idle (hO : Ok m) (hL : Live m) (t : Fin (cfgM m hO).N) : (cfgM m hO).idle (5 : Fin 6) ((cfgM m hO).grid.coords t) = false := by
  have key := atD_rows m (grid0.coords t)
  show (!(k0_cond1 ((tbl m).atD 1 (k0_off1 (grid0.coords t))) == 1#1) && !(k0_cond2 ((tbl m).atD 1 (k0_off1 (grid0.coords t))) == 1#1)) = false
  rw [key]
  rcases hL 0 (grid0.coords t) with h | h <;> rw [h] <;> simp

/-- What the output's staging buffer holds after the body at point `t`. -/
def outsAt0 (hO : Ok m) (hL : Live m) (c : Dev nD) (t : Fin (cfgM m hO).N) : Vec F S512x1024 .f32 :=
  if h : k0_cond1 (rowsAt c (grid0.coords t) (tbl m 1)) = 1#1 then
    VO0_5.read (Elt F) (VO0_5.writes (Elt F) VO0_5.junk (used c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) h (not_zero_of_pos _ h)).1)
  else
    VO0_5.read (Elt F) (VO0_5.writes (Elt F) VO0_5.junk (unused c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) h ((hL c _).resolve_left h)).1)

theorem outsAt0_used (hO : Ok m) (hL : Live m) (c : Dev nD) (t : Fin (cfgM m hO).N) (h : k0_cond1 (rowsAt c (grid0.coords t) (tbl m 1)) = 1#1) :
    outsAt0 m hO hL c t = VO0_5.read (Elt F) (VO0_5.writes (Elt F) VO0_5.junk (used c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) h (not_zero_of_pos _ h)).1) := by
  unfold outsAt0; rw [dif_pos h]

theorem outsAt0_unused (hO : Ok m) (hL : Live m) (c : Dev nD) (t : Fin (cfgM m hO).N) (h : ¬ (k0_cond1 (rowsAt c (grid0.coords t) (tbl m 1)) = 1#1)) :
    outsAt0 m hO hL c t = VO0_5.read (Elt F) (VO0_5.writes (Elt F) VO0_5.junk (unused c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) h ((hL c _).resolve_left h)).1) := by
  unfold outsAt0; rw [dif_neg h]

/-! ## The pipeline's proof data -/

/-- The pipeline's data on core `c`: the arrays as the region finds them; after the body at point `t` each input's
    buffer at its block and the output's at `outsAt0`; the tables held throughout. -/
def dats (hO : Ok m) (hL : Live m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO hL c t)
  Φ _ := iprop(Pipeline.ΦA spec0 c ∗ Pipeline.ΦT pre0 (tbl m) c)
  q _ := fullShare
  owed _ := 0

/-- The arrays are as the region finds them. -/
theorem A_eq (hO : Ok m) (hL : Live m) (c : Dev nD) (w : Fin (cfgM m hO).W) : (dats m hO hL 0 c).A w = V m c (Pipeline.arrRef spec0 w) := by
  dsimp only [dats]

/-- What the body leaves, window by window. -/
theorem after0_0 (hO : Ok m) (hL : Live m) (c : Dev nD) (t : Fin (cfgM m hO).N) : (dats m hO hL 0 c).after 0 t = iblk m hO c 0 t := by dsimp only [dats]; try rfl
theorem after0_1 (hO : Ok m) (hL : Live m) (c : Dev nD) (t : Fin (cfgM m hO).N) : (dats m hO hL 0 c).after 1 t = iblk m hO c 1 t := by dsimp only [dats]; try rfl
theorem after0_2 (hO : Ok m) (hL : Live m) (c : Dev nD) (t : Fin (cfgM m hO).N) : (dats m hO hL 0 c).after 2 t = iblk m hO c 2 t := by dsimp only [dats]; try rfl
theorem after0_3 (hO : Ok m) (hL : Live m) (c : Dev nD) (t : Fin (cfgM m hO).N) : (dats m hO hL 0 c).after 3 t = iblk m hO c 3 t := by dsimp only [dats]; try rfl
theorem after0_4 (hO : Ok m) (hL : Live m) (c : Dev nD) (t : Fin (cfgM m hO).N) : (dats m hO hL 0 c).after 4 t = iblk m hO c 4 t := by dsimp only [dats]; try rfl
theorem after0_5 (hO : Ok m) (hL : Live m) (c : Dev nD) (t : Fin (cfgM m hO).N) : (dats m hO hL 0 c).after 5 t = (outsAt0 m hO hL c t) := by dsimp only [dats]; try rfl

/-- Each input's staging buffer holds its block when the body is called. -/
theorem before0_0 (hO : Ok m) (hL : Live m) (c : Dev nD) (t : Fin (cfgM m hO).N) (d) : (dats m hO hL 0 c).before 0 t d = iblk m hO c 0 t :=
  before0_0_of m hO (dats m hO hL 0 c) (A_eq m hO hL c 0) (after0_0 m hO hL c) t d
theorem before0_1 (hO : Ok m) (hL : Live m) (c : Dev nD) (t : Fin (cfgM m hO).N) (d) : (dats m hO hL 0 c).before 1 t d = iblk m hO c 1 t :=
  before0_1_of m hO (dats m hO hL 0 c) (A_eq m hO hL c 1) (after0_1 m hO hL c) t d
theorem before0_2 (hO : Ok m) (hL : Live m) (c : Dev nD) (t : Fin (cfgM m hO).N) (d) : (dats m hO hL 0 c).before 2 t d = iblk m hO c 2 t :=
  before0_2_of m hO (dats m hO hL 0 c) (A_eq m hO hL c 2) (after0_2 m hO hL c) t d
theorem before0_3 (hO : Ok m) (hL : Live m) (c : Dev nD) (t : Fin (cfgM m hO).N) (d) : (dats m hO hL 0 c).before 3 t d = iblk m hO c 3 t :=
  before0_3_of m hO (dats m hO hL 0 c) (A_eq m hO hL c 3) (after0_3 m hO hL c) t d
theorem before0_4 (hO : Ok m) (hL : Live m) (c : Dev nD) (t : Fin (cfgM m hO).N) (d) : (dats m hO hL 0 c).before 4 t d = iblk m hO c 4 t :=
  before0_4_of m hO (dats m hO hL 0 c) (A_eq m hO hL c 4) (after0_4 m hO hL c) t d

/-! ## The body obligation, at a generic point -/

/-- What the body is called with at point `t`, -/
def bodyPre (hO : Ok m) (hL : Live m) (c : Dev nD) (t : Fin (cfgM m hO).N) : sProp 𝕄 :=
  iprop((dats m hO hL 0 c).Φ t.castSucc ∗ (dats m hO hL 0 c).owesAt () t.castSucc
    ∗ (∃ d, owns (c : Thread nD τ) (ms0_0 m hO t) fullShare ((dats m hO hL 0 c).before 0 t d))
    ∗ (∃ d, owns (c : Thread nD τ) (ms0_1 m hO t) fullShare ((dats m hO hL 0 c).before 1 t d))
    ∗ (∃ d, owns (c : Thread nD τ) (ms0_2 m hO t) fullShare ((dats m hO hL 0 c).before 2 t d))
    ∗ (∃ d, owns (c : Thread nD τ) (ms0_3 m hO t) fullShare ((dats m hO hL 0 c).before 3 t d))
    ∗ (∃ d, owns (c : Thread nD τ) (ms0_4 m hO t) fullShare ((dats m hO hL 0 c).before 4 t d))
    ∗ (∃ d, owns (c : Thread nD τ) (ms0_5 m hO t) fullShare ((dats m hO hL 0 c).before 5 t d)))

/-- and what it returns. -/
def bodyPost (hO : Ok m) (hL : Live m) (c : Dev nD) (t : Fin (cfgM m hO).N) : sProp 𝕄 :=
  iprop((dats m hO hL 0 c).Φ t.succ ∗ (dats m hO hL 0 c).owesAt () t.succ
    ∗ owns (c : Thread nD τ) (ms0_0 m hO t) fullShare ((dats m hO hL 0 c).after 0 t)
    ∗ owns (c : Thread nD τ) (ms0_1 m hO t) fullShare ((dats m hO hL 0 c).after 1 t)
    ∗ owns (c : Thread nD τ) (ms0_2 m hO t) fullShare ((dats m hO hL 0 c).after 2 t)
    ∗ owns (c : Thread nD τ) (ms0_3 m hO t) fullShare ((dats m hO hL 0 c).after 3 t)
    ∗ owns (c : Thread nD τ) (ms0_4 m hO t) fullShare ((dats m hO hL 0 c).after 4 t)
    ∗ owns (c : Thread nD τ) (ms0_5 m hO t) fullShare ((dats m hO hL 0 c).after 5 t))

/-- The body at any point: by the count of its tile's rows one of the two runs applies. -/
theorem sound_body (hO : Ok m) (hL : Live m) (c : Dev nD) (t : Fin (cfgM m hO).N) :
    bodyPre m hO hL c t ⊢ wp frame (wpE (defs₀ (F := F)) Variants.none c none) Set.univ (bodyAt0 (adm m hO) t) (fun _ => bodyPost m hO hL c t) := by
  unfold bodyPre bodyPost bodyAt0
  simp only [before0_0, before0_1, before0_2, before0_3, before0_4]
  rw [show (dats m hO hL 0 c).Φ t.succ = (dats m hO hL 0 c).Φ t.castSucc from rfl,
    show (dats m hO hL 0 c).owesAt () t.succ = (dats m hO hL 0 c).owesAt () t.castSucc from rfl,
    after0_0, after0_1, after0_2, after0_3, after0_4, after0_5]
  rw [show (dats m hO hL 0 c).Φ t.castSucc = iprop(Pipeline.ΦA spec0 c ∗ Pipeline.ΦT pre0 (tbl m) c) from rfl, PhiT0_eq]
  by_cases h : k0_cond1 (rowsAt c (grid0.coords t) (tbl m 1)) = 1#1
  · rw [outsAt0_used m hO hL c t h]
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((used c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) h (not_zero_of_pos _ h)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    iintro ⟨H0, H1, H2, H3, H4, ⟨%e5, H5⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (used_cover c _ (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) _ _ _ _)
  · rw [outsAt0_unused m hO hL c t h]
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((unused c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) h ((hL c _).resolve_left h)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    iintro ⟨H0, H1, H2, H3, H4, ⟨%e5, H5⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (unused_cover c _ (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The pipeline's obligation of the body, at every point. -/
theorem body_obligation (hO : Ok m) (hL : Live m) (c : Dev nD) : BodyObligation (dats (F := F) m hO hL 0 c) (defs₀ (F := F)) Variants.none () Set.univ := fun t => by
  rw [bigSep_W0, bigSep_W0, defs₀_row m hO]
  rewrite [not_idle m hO hL t]
  exact triple_restated (sound_body m hO hL c t) rfl .rfl fun _ => .rfl

/-! ## The run and the frame -/

set_option backward.isDefEq.respectTransparency.types false in
/-- The launch: every execution ends with the arrays as the pipeline's data say, all semaphores at zero. -/
theorem run_main_quiescent (hO : Ok m) (hL : Live m) : θ_run defs (onTc (τ := τ) (main (F := F))) (s₀ m ρ) (fun r => (Pipeline.FramePost (Pipeline.pin pcfgs fun _ => adm m hO) (dats m hO hL) 0 (V m)) r ∧ r.2.sem = fun _ => 0) :=
  Pipeline.θ_run_frameP (Q' := _) pcfgs (fun _ => adm m hO) (dats m hO hL) (0 : Fin 1) launch0 defs₀ Variants.none m ρ main
    (hbody := fun c => (body_obligation m hO hL c).loose) (hshare := fun c => (dats m hO hL 0 c).share_full fun _ => rfl)
    (howed := fun _ _ => rfl) (V := V m) (hmain := hmain m Variants.none) (hA := A_eq m hO hL) (hpf := V_pre m)
    (hΦ := fun _ _ => rfl)

/-- The same without the semaphores. -/
theorem run_main (hO : Ok m) (hL : Live m) : θ_run defs (onTc (τ := τ) (main (F := F))) (s₀ m ρ) (Pipeline.FramePost (Pipeline.pin pcfgs fun _ => adm m hO) (dats m hO hL) 0 (V m)) :=
  (θ_run defs _ _).mono (fun _ h => h.1) (run_main_quiescent m ρ hO hL)

/-- Every argument array ends as it was launched. -/
theorem unchanged (hO : Ok m) (hL : Live m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO hL) (A_eq m hO hL) (run_main m ρ hO hL)

/-- The frame claim: the arguments unchanged and every semaphore at zero. -/
theorem frame (hO : Ok m) (hL : Live m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hL) ((θ_run defs _ _).mono (fun _ h => h.2) (run_main_quiescent m ρ hO hL))

end Cert.ExpertsIdeal.Held

end
-- ==== Proof.ExpertsIdealTables.lean ====
/- What the experts' precondition says of the two tables: every expert is below 8 and no count of used rows is negative;
   so the pipeline's side conditions hold. -/
module

public import proofs.«01_k».proof.Proof.ExpertsIdealRun
public import proofs.«01_k».proof.Proof.ExpertsIdealPipe
public import proofs.«01_k».proof.Proof.Math
public import proofs.«01_k».proof.Defs
public import proofs.«01_k».proof.Proof.Gen.Pre_experts_in_range
public import Idealize.ShloMosaic.Lib.Pipeline.ValueKit

@[expose] public section

noncomputable section

namespace Cert.ExpertsIdeal.Held

open Cert.ExpertsIdeal Cert.ExpertsIdeal.Gen Idealize.ShloMosaic Idealize.ShloMosaic.TcCoe Idealize.SL.Sem

/-- The place in the tables that point `i` reads. -/
theorem off_val (i : grid0.Coords) : k0_off1 i 0 = (i 0).val := by
  have h : (i 0).val < 264 := (i 0).isLt
  show (BitVec.ofNat 32 (i 0).val).toNat = (i 0).val
  rw [BitVec.toNat_ofNat]
  exact Nat.mod_eq_of_lt (by omega)

/-- That place as an index. -/
theorem place (i : grid0.Coords) : (Rect.unit (s := S264) (k0_off1 i) S1.size (k0_off1_inb i)).toLoadRect.idx (Shape.Idx.first (numel1_S1.symm ▸ Nat.one_pos)) = ix1 (i 0) := by
  funext (a : Fin 1)
  obtain rfl : a = (0 : Fin 1) := Subsingleton.elim _ _
  apply Fin.ext
  show k0_off1 i 0 + 1 * _ = (i 0).val
  rw [off_val]
  rfl

/-- The count of used rows that the body reads at point `i`. -/
theorem rows_eq {F : FTy → Type} [FloatOps F] (c : Dev nD) (i : grid0.Coords) (xt1 : TbBuf0 (F := F) c tbM0_1) : rowsAt c i xt1 = (xt1 : S264.Idx → BitVec 32) (ix1 (i 0)) := by
  exact congrArg (xt1 : S264.Idx → BitVec 32) (place i)

variable (m : (ℓ : Loc nD τ sig) → Buf (Elt Ideal) ℓ)

/-- Tile `t`'s expert and its count of used rows, as the launch finds them. -/
abbrev expert (t : Fin 264) : BitVec 32 := (m (((0 : Dev nD) : Thread nD τ).loc main_arg5) : S264.Idx → BitVec 32) (ix1 t)
abbrev count (t : Fin 264) : BitVec 32 := (m (((0 : Dev nD) : Thread nD τ).loc main_arg6) : S264.Idx → BitVec 32) (ix1 t)

theorem index2 (i : grid0.Coords) : cc0_transform_2 (F := Ideal) k0_off1_inb numel1_S1 (tbl m) i = ![(expert m (i 0)).toNat, 0, 0] := by
  have h : (tbl m).at 0 (Rect.unit (s := S264) (k0_off1 i) S1.size (k0_off1_inb i)) numel1_S1 = expert m (i 0) := congrArg (tbl m 0 : S264.Idx → BitVec 32) (place i)
  show ![BitVec.toNat ((tbl m).at 0 (Rect.unit (s := S264) (k0_off1 i) S1.size (k0_off1_inb i)) numel1_S1), 0, 0] = _
  rw [h]

theorem index3 (i : grid0.Coords) : cc0_transform_3 (F := Ideal) k0_off1_inb numel1_S1 (tbl m) i = ![(expert m (i 0)).toNat, 0, 0] := index2 m i

theorem index4 (i : grid0.Coords) : cc0_transform_4 (F := Ideal) k0_off1_inb numel1_S1 (tbl m) i = ![(expert m (i 0)).toNat, 0, 0] := index2 m i

/-- A word at least 0 and below 8 is below 8 as a natural number. -/
theorem small (v : BitVec 32) (h0 : IntOp.cmpi .sge v 0#32 = 1#1) (h8 : IntOp.cmpi .slt v 8#32 = 1#1) : v.toNat < 8 := by
  have a : BitVec.ofBool (BitVec.sle 0#32 v) = 1#1 := h0
  have b : BitVec.ofBool (BitVec.slt v 8#32) = 1#1 := h8
  have a' : BitVec.sle 0#32 v = true := by revert a; cases BitVec.sle 0#32 v <;> decide
  have b' : BitVec.slt v 8#32 = true := by revert b; cases BitVec.slt v 8#32 <;> decide
  rw [BitVec.sle_eq_decide, decide_eq_true_eq] at a'
  rw [BitVec.slt_eq_decide, decide_eq_true_eq] at b'
  have z : (0#32 : BitVec 32).toInt = 0 := by decide
  have e : (8#32 : BitVec 32).toInt = 8 := by decide
  have q := BitVec.toInt_eq_toNat_cond v
  rw [z] at a'
  rw [e] at b'
  split at q <;> omega

theorem and_split (a b : BitVec 1) (h : IntOp.andi a b = 1#1) : a = 1#1 ∧ b = 1#1 := by
  revert a b
  decide

variable (hpre : Cert.Pre_ExpertsIdeal m)
include hpre

theorem pre_at (t : Fin 264) : (IntOp.cmpi .sge (expert m t) 0#32 = 1#1 ∧ IntOp.cmpi .slt (expert m t) 8#32 = 1#1) ∧ IntOp.cmpi .sge (count m t) 0#32 = 1#1 := by
  have h := congrFun (hpre 0) (ix1 t)
  have h' : IntOp.andi (IntOp.andi (IntOp.cmpi .sge (expert m t) 0#32) (IntOp.cmpi .slt (expert m t) 8#32)) (IntOp.cmpi .sge (count m t) 0#32) = 1#1 := h
  obtain ⟨a, b⟩ := and_split _ _ h'
  exact ⟨and_split _ _ a, b⟩

theorem expert_lt (t : Fin 264) : (expert m t).toNat < 8 :=
  small _ (pre_at m hpre t).1.1 (pre_at m hpre t).1.2

/-- Every block of weights that a table names lies in its array. -/
theorem ok_of_pre : Ok m := by
  have key : ∀ i : grid0.Coords, (expert m (i 0)).toNat < 8 := fun i => expert_lt m hpre (i 0)
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · rw [index2 m i]
    have := key i
    fin_cases a
    · show ((expert m (i 0)).toNat + 1) * 1 ≤ 8
      omega
    · exact (by decide : (0 + 1) * 1024 ≤ 1024)
    · exact (by decide : (0 + 1) * 1408 ≤ 1408)
  · rw [index3 m i]
    have := key i
    fin_cases a
    · show ((expert m (i 0)).toNat + 1) * 1 ≤ 8
      omega
    · exact (by decide : (0 + 1) * 1024 ≤ 1024)
    · exact (by decide : (0 + 1) * 1408 ≤ 1408)
  · rw [index4 m i]
    have := key i
    fin_cases a
    · show ((expert m (i 0)).toNat + 1) * 1 ≤ 8
      omega
    · exact (by decide : (0 + 1) * 1408 ≤ 1408)
    · exact (by decide : (0 + 1) * 1024 ≤ 1024)

omit hpre in
/-- The body's two conditions on a count: positive, and zero. -/
theorem cond1_eq (v : BitVec 32) : k0_cond1 v = IntOp.cmpi .sgt v 0#32 := by
  show IntOp.cmpi .ne (BitVec.zeroExtend 32 (IntOp.cmpi .sgt v 0#32)) 0#32 = _
  generalize IntOp.cmpi .sgt v 0#32 = b
  revert b
  decide

omit hpre in
theorem cond_cases (v : BitVec 32) (h : IntOp.cmpi .sge v 0#32 = 1#1) : k0_cond1 v = 1#1 ∨ k0_cond2 v = 1#1 := by
  by_cases hv : v = 0#32
  · subst hv; right; rfl
  · left
    rw [cond1_eq]
    have a : BitVec.ofBool (BitVec.sle 0#32 v) = 1#1 := h
    have a' : BitVec.sle 0#32 v = true := by revert a; cases BitVec.sle 0#32 v <;> decide
    show BitVec.ofBool (BitVec.slt 0#32 v) = 1#1
    have b' : BitVec.slt 0#32 v = true := by
      rw [BitVec.sle_eq_decide, decide_eq_true_eq] at a'
      rw [BitVec.slt_eq_decide, decide_eq_true_eq]
      refine lt_of_le_of_ne a' fun e => hv ?_
      exact (BitVec.toInt_inj.mp e).symm
    rw [b']
    rfl

/-- So the body stores the output at every point. -/
theorem live_of_pre : Live m := fun c i => by
  rw [rows_eq c i (tbl m 1)]
  exact cond_cases _ (pre_at m hpre (i 0)).2

end Cert.ExpertsIdeal.Held

end
-- ==== Proof.ExpertsValue.lean ====
/- The experts' kernel's output in closed form: what the body stores at a tile with used rows and at one without, and the
   output array block by block. -/
module

public import proofs.«01_k».proof.Proof.Math
public import proofs.«01_k».proof.Proof.ExpertsIdealTables
public import Idealize.ShloMosaic.Lib.Pipeline.ValueKit
public import Idealize.ShloMosaic.Lib.Pipeline.Covers

@[expose] public section

noncomputable section

namespace Cert.ExpertsIdeal.Held

open Cert.ExpertsIdeal Cert.ExpertsIdeal.Gen Idealize.ShloMosaic Idealize.ShloMosaic.TcCoe Idealize.SL.Sem Cert.Ffw

/-- The block stored at a tile with used rows: each row's feed-forward by the tile's expert. -/
theorem used_at (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole)
    (x0 : Vec Ideal S512x1024 .f32) (x1 : Vec Ideal S1x1024 .f32) (x2 : Vec Ideal S1x1024x1408 .bf16) (x3 : Vec Ideal S1x1024x1408 .bf16) (x4 : Vec Ideal S1x1408x1024 .bf16) (xt0 : TbBuf0 (F := Ideal) c tbM0_0) (xt1 : TbBuf0 (F := Ideal) c tbM0_1)
    (hpos : k0_cond1 (rowsAt c i xt1) = 1#1) (hnz : ¬ (k0_cond2 (rowsAt c i xt1) = 1#1)) (j : S512x1024.Idx) :
    VO0_5.read (Elt Ideal) (VO0_5.writes (Elt Ideal) VO0_5.junk (used c i arg3 harg3 arg4 harg4 arg5 harg5 arg6 harg6 arg7 harg7 arg8 harg8 x0 x1 x2 x3 x4 xt0 xt1 hpos hnz).1) j
      = swiglu (normed (fun k => x0 (ix2 (j 0) k)) (fun k => x1 (ix2 0 k))) (fun k f => x2 (ix3 0 k f)) (fun k f => x3 (ix3 0 k f)) (fun f d => x4 (ix3 0 f d)) (j 1) := by
  frame_out
  pointwise [k0_pay1, k0_pay3, k0_pay4, k0_pay5, k0_pay6]
  simp only [zero_sub]
  unfold swiglu
  rw [sum_1408]
  rfl

theorem unused_at (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole)
    (x0 : Vec Ideal S512x1024 .f32) (x1 : Vec Ideal S1x1024 .f32) (x2 : Vec Ideal S1x1024x1408 .bf16) (x3 : Vec Ideal S1x1024x1408 .bf16) (x4 : Vec Ideal S1x1408x1024 .bf16) (xt0 : TbBuf0 (F := Ideal) c tbM0_0) (xt1 : TbBuf0 (F := Ideal) c tbM0_1)
    (hnp : ¬ (k0_cond1 (rowsAt c i xt1) = 1#1)) (hz : k0_cond2 (rowsAt c i xt1) = 1#1) (j : S512x1024.Idx) :
    VO0_5.read (Elt Ideal) (VO0_5.writes (Elt Ideal) VO0_5.junk (unused c i arg3 harg3 arg4 harg4 arg5 harg5 arg6 harg6 arg7 harg7 arg8 harg8 x0 x1 x2 x3 x4 xt0 xt1 hnp hz).1) j = (0 : EReal) := by
  frame_out
  pointwise [k0_pay2]

variable (m : (ℓ : Loc nD τ sig) → Buf (Elt Ideal) ℓ)

/-- The result's entry in row `n` and column `d`: zero in a tile without used rows, otherwise the row's feed-forward by
    the tile's expert. -/
def entry (hlt : ∀ t : Fin 264, (expert m t).toNat < 8) (c : Dev nD) (n : Fin 135168) (d : Fin 1024) : EReal :=
  if IntOp.cmpi .sgt (count m ⟨n.val / 512, by omega⟩) 0#32 = 1#1 then
    swiglu (normed (fun k => m ((c : Thread nD τ).loc main_arg0) (ix2 n k)) (fun k => m ((c : Thread nD τ).loc main_arg1) (ix2 0 k)))
      (fun k f => m ((c : Thread nD τ).loc main_arg2) (ix3 ⟨(expert m ⟨n.val / 512, by omega⟩).toNat, hlt _⟩ k f))
      (fun k f => m ((c : Thread nD τ).loc main_arg3) (ix3 ⟨(expert m ⟨n.val / 512, by omega⟩).toNat, hlt _⟩ k f))
      (fun f d => m ((c : Thread nD τ).loc main_arg4) (ix3 ⟨(expert m ⟨n.val / 512, by omega⟩).toNat, hlt _⟩ f d)) d
  else 0

section Blocks

variable (hO : Ok m)

/-- The windows' block indices at a point. -/
theorem index_rows (i : grid0.Coords) : cc0_transform_0 i = ![(i 0).val, 0] := by
  have h : (i 0).val < 264 := (i 0).isLt
  show ![(BitVec.ofNat 32 (i 0).val).toNat, 0] = _
  rw [BitVec.toNat_ofNat, Nat.mod_eq_of_lt (by omega)]

theorem at0 (t : Fin (cfgM m hO).N) : ((cfgM m hO).win 0).index t = ![(grid0.coords t 0).val, 0] := index_rows (grid0.coords t)
theorem at1 (t : Fin (cfgM m hO).N) : ((cfgM m hO).win 1).index t = ![0, 0] := rfl
theorem at2 (t : Fin (cfgM m hO).N) : ((cfgM m hO).win 2).index t = ![(expert m (grid0.coords t 0)).toNat, 0, 0] := index2 m (grid0.coords t)
theorem at3 (t : Fin (cfgM m hO).N) : ((cfgM m hO).win 3).index t = ![(expert m (grid0.coords t 0)).toNat, 0, 0] := index3 m (grid0.coords t)
theorem at4 (t : Fin (cfgM m hO).N) : ((cfgM m hO).win 4).index t = ![(expert m (grid0.coords t 0)).toNat, 0, 0] := index4 m (grid0.coords t)
theorem at5 (t : Fin (cfgM m hO).N) : ((cfgM m hO).win 5).index t = ![(grid0.coords t 0).val, 0] := index_rows (grid0.coords t)

/-- The output's blocks cover its array. -/
theorem covers : ((cfgM m hO).win 5).Covers :=
  ((cfgM m hO).win 5).covers_of_indexMap_surj rfl (by decide : ∀ a : Fin 2, 0 < S512x1024.size a) fun (β : (a : Fin 2) → Fin (((cfgM m hO).win 5).nblk a)) => by
    have h0 : (β 0).val < 264 := lt_of_lt_of_eq (β 0).isLt (show (135168 + 512 - 1) / 512 = 264 by norm_num)
    have h1 : (β 1).val < 1 := lt_of_lt_of_eq (β 1).isLt (show (1024 + 1024 - 1) / 1024 = 1 by norm_num)
    let i : grid0.Coords := fun (x : Fin 1) => ⟨(β 0).val, by obtain rfl : x = (0 : Fin 1) := Subsingleton.elim _ _; exact h0⟩
    have e : ((cfgM m hO).win 5).indexMap i = ![(β 0).val, 0] := index_rows i
    refine ⟨i, fun (a : Fin 2) => ?_⟩
    rw [e]
    fin_cases a
    · rfl
    · show 0 = (β 1).val
      omega

variable (c : Dev nD) (t : Fin (cfgM m hO).N)

theorem coord_lt : (grid0.coords t 0).val < 264 := (grid0.coords t 0).isLt

/-- The row of the whole array that row `r` of point `t`'s block is. -/
abbrev row (r : Fin 512) : Fin 135168 := ⟨(grid0.coords t 0).val * 512 + r.val, by have := coord_lt m hO t; omega⟩

theorem blk0 (r : Fin 512) (k : Fin 1024) : (iblk m hO c 0 t : S512x1024.Idx → EReal) (ix2 r k) = m ((c : Thread nD τ).loc main_arg0) (ix2 (row m hO t r) k) := by
  blk_ext [iblk, V_main_arg0, at0 m hO t]
theorem blk1 (k : Fin 1024) : (iblk m hO c 1 t : S1x1024.Idx → EReal) (ix2 0 k) = m ((c : Thread nD τ).loc main_arg1) (ix2 0 k) := by
  blk_ext [iblk, V_main_arg1, at1 m hO t]
theorem blk2 (k : Fin 1024) (f : Fin 1408) (h : (expert m (grid0.coords t 0)).toNat < 8) :
    (iblk m hO c 2 t : S1x1024x1408.Idx → EReal) (ix3 0 k f) = m ((c : Thread nD τ).loc main_arg2) (ix3 ⟨(expert m (grid0.coords t 0)).toNat, h⟩ k f) := by
  blk_ext [iblk, V_main_arg2, at2 m hO t]
theorem blk3 (k : Fin 1024) (f : Fin 1408) (h : (expert m (grid0.coords t 0)).toNat < 8) :
    (iblk m hO c 3 t : S1x1024x1408.Idx → EReal) (ix3 0 k f) = m ((c : Thread nD τ).loc main_arg3) (ix3 ⟨(expert m (grid0.coords t 0)).toNat, h⟩ k f) := by
  blk_ext [iblk, V_main_arg3, at3 m hO t]
theorem blk4 (f : Fin 1408) (d : Fin 1024) (h : (expert m (grid0.coords t 0)).toNat < 8) :
    (iblk m hO c 4 t : S1x1408x1024.Idx → EReal) (ix3 0 f d) = m ((c : Thread nD τ).loc main_arg4) (ix3 ⟨(expert m (grid0.coords t 0)).toNat, h⟩ f d) := by
  blk_ext [iblk, V_main_arg4, at4 m hO t]

theorem emb5 (y : S512x1024.Idx) : (((cfgM m hO).win 5).blk t).view.emb y = (ix2 (row m hO t (y 0)) (y 1) : S135168x1024.Idx) := by
  blk_ext [at5 m hO t]

variable (hL : Live m) (hlt : ∀ t : Fin 264, (expert m t).toNat < 8)

/-- What a point leaves in the output's block. -/
theorem point (y : S512x1024.Idx) : outsAt0 m hO hL c t y = entry m hlt c (row m hO t (y 0)) (y 1) := by
  have hc := coord_lt m hO t
  have hy : (y 0).val < 512 := (y 0).isLt
  have ht : ∀ h, (⟨(row m hO t (y 0)).val / 512, h⟩ : Fin 264) = grid0.coords t 0 := fun h => Fin.ext (by
    show ((grid0.coords t 0).val * 512 + (y 0).val) / 512 = (grid0.coords t 0).val
    omega)
  unfold entry
  simp only [ht]
  by_cases h : k0_cond1 (rowsAt c (grid0.coords t) (tbl m 1)) = 1#1
  · refine (congrFun (outsAt0_used m hO hL c t h) y).trans ((used_at c (grid0.coords t) _ _ _ _ _ _ _ _ _ _ _ _ _ _ _ _ _ _ _ h (not_zero_of_pos _ h) y).trans ?_)
    have h' : k0_cond1 (count m (grid0.coords t 0)) = 1#1 := (congrArg k0_cond1 (rows_eq c (grid0.coords t) (tbl m 1))).symm.trans h
    rw [cond1_eq] at h'
    refine Eq.trans ?_ (if_pos h').symm
    have b0 : ∀ k : Fin 1024, (iblk m hO c 0 t : S512x1024.Idx → EReal) (ix2 (y 0) k) = m ((c : Thread nD τ).loc main_arg0) (ix2 (row m hO t (y 0)) k) := fun k => blk0 m hO c t (y 0) k
    simp only [b0, blk1, blk2 m hO c t _ _ (hlt _), blk3 m hO c t _ _ (hlt _), blk4 m hO c t _ _ (hlt _)]
  · refine (congrFun (outsAt0_unused m hO hL c t h) y).trans ((unused_at c (grid0.coords t) _ _ _ _ _ _ _ _ _ _ _ _ _ _ _ _ _ _ _ h ((hL c _).resolve_left h) y).trans ?_)
    have h' : ¬ k0_cond1 (count m (grid0.coords t 0)) = 1#1 := fun q => h ((congrArg k0_cond1 (rows_eq c (grid0.coords t) (tbl m 1))).trans q)
    rw [cond1_eq] at h'
    exact (if_neg h').symm

end Blocks

/-- The kernel's output array. -/
theorem array_eq (hO : Ok m) (hL : Live m) (hlt : ∀ t : Fin 264, (expert m t).toNat < 8) (c : Dev nD) :
    (dats m hO hL 0 c).arrAt 5 (cfgM m hO).N = fun i : S135168x1024.Idx => entry m hlt c (i 0) (i 1) := by
  refine (dats m hO hL 0 c).arrAt_eq_of_covers 5 _ (covers m hO) fun t hf y => ?_
  blk_simp
  rw [after0_5]
  refine (point m hO c t hL hlt y).trans ?_
  refine congrArg₂ (entry m hlt c) (Fin.ext ?_) (Fin.ext ?_)
  · blk_simp [at5 m hO t]
  · blk_simp [at5 m hO t]

end Cert.ExpertsIdeal.Held

end
-- ==== Proof.ExpertsRefValue.lean ====
/- The experts' reference read at one entry: the gates' weighted sum of the eight experts' feed-forwards of that row, and
   what it comes to when the tile's expert and its count of rows are known. -/
module

public import proofs.«01_k».proof.Proof.Math
public import proofs.«01_k».proof.Proof.Gen.ExpertsRefIdeal.Read

@[expose] public section

noncomputable section

namespace Cert.ExpertsRefIdeal.Held

open Cert.ExpertsRefIdeal Cert.ExpertsRefIdeal.Gen Cert.ExpertsRefIdeal.Read Idealize.ShloMosaic Idealize.SL.Sem Cert.Ffw

variable (x0 : FVec Ideal S135168x1024 .f32) (x1 : FVec Ideal S1x1024 .f32) (x2 x3 : FVec Ideal S8x1024x1408 .bf16) (x4 : FVec Ideal S8x1408x1024 .bf16)
  (x5 x6 : IVec S264 32)

/-- Row `n` normalised. -/
abbrev rowN (n : Fin 135168) : Fin 1024 → EReal := normed (fun k => x0 (ix2 n k)) (fun k => x1 (ix2 0 k))

theorem h_at (j : S135168x1024.Idx) : val_main_v13 (F := Ideal) x0 x1 j = rowN x0 x1 (j 0) (j 1) := by
  pointwise [val_main_v13, val_main_v12, val_main_v11, val_main_v10, val_main_v9, val_main_v8, val_main_v7, val_main_v6, val_main_cst_1, val_main_v5, val_main_v4, val_main_cst_0, val_main_v3, val_main_v2, val_main_v1, val_main_v0, val_main_cst]
  idx_vars j
  rfl

theorem a_at (i : S135168x8x1408.Idx) : val_main_v25 (F := Ideal) x0 x1 x2 i = ∑ k : Fin 1024, rowN x0 x1 (i 0) k * x2 (ix3 (i 1) k (i 2)) := by
  rw [val_main_v25_apply]
  refine Finset.sum_congr rfl fun k _ => ?_
  rw [h_at]
  pointwise [val_main_v24]
  exact congrArg _ (congrArg _ (funext fun a => match a with | ⟨0, _⟩ => rfl | ⟨1, _⟩ => rfl | ⟨2, _⟩ => rfl))

theorem b_at (i : S135168x8x1408.Idx) : val_main_v27 (F := Ideal) x0 x1 x3 i = ∑ k : Fin 1024, rowN x0 x1 (i 0) k * x3 (ix3 (i 1) k (i 2)) := by
  rw [val_main_v27_apply]
  refine Finset.sum_congr rfl fun k _ => ?_
  rw [h_at]
  pointwise [val_main_v26]
  exact congrArg _ (congrArg _ (funext fun a => match a with | ⟨0, _⟩ => rfl | ⟨1, _⟩ => rfl | ⟨2, _⟩ => rfl))

theorem gated_at (i : S135168x8x1408.Idx) : val_main_v29 (F := Ideal) x0 x1 x2 x3 i = gated (rowN x0 x1 (i 0)) (fun k f => x2 (ix3 (i 1) k f)) (fun k f => x3 (ix3 (i 1) k f)) (i 2) := by
  pointwise [val_main_v29, val_main_v28, val_main_call1_v5, val_main_call1_v4, val_main_call1_cst_0, val_main_call1_v3, val_main_call1_v2, val_main_call1_cst, val_main_call1_v1, val_main_call1_v0]
  rw [a_at, b_at]
  rfl

/-- Expert `e`'s output at row `n`, entry `d`. -/
theorem expert_at (n : Fin 135168) (e : Fin 8) (d : Fin 1024) : val_main_v32 (F := Ideal) x0 x1 x2 x3 x4 (ix3 n e d)
    = swiglu (rowN x0 x1 n) (fun k f => x2 (ix3 e k f)) (fun k f => x3 (ix3 e k f)) (fun f d => x4 (ix3 e f d)) d := by
  rw [val_main_v32_apply, val_main_v31_apply]
  refine Finset.sum_congr rfl fun f _ => ?_
  rw [gated_at, mul_comm]
  pointwise [val_main_v30]
  exact congrArg _ (congrArg _ (funext fun a => match a with | ⟨0, _⟩ => rfl | ⟨1, _⟩ => rfl | ⟨2, _⟩ => rfl))

/-- A bit as a float. -/
theorem uitofp_bit (b : BitVec 1) : FloatOps.uitofp (F := Ideal) FTy.f32 b = ((b.toNat : ℝ) : EReal) := rfl

/-- The gate of tile `t` and expert `e`: the one-hot entry times whether the tile has used rows. -/
theorem gate_at (t : Fin 264) (e : Fin 8) : val_main_v20 (F := Ideal) x5 x6 (ix2 t e)
    = FloatOps.uitofp (F := Ideal) FTy.f32 (IntOp.cmpi .eq (x5 (ix1 t)) (BitVec.ofNat 32 e.val)) * FloatOps.uitofp (F := Ideal) FTy.f32 (IntOp.cmpi .sgt (x6 (ix1 t)) 0#32) := by
  pointwise [val_main_v20, val_main_v19, val_main_v18, val_main_v17, val_main_v16, val_main_v15, val_main_c, val_main_v14, val_main_call0_v4, val_main_call0_v3, val_main_call0_v2, val_main_call0_v1, val_main_call0_v0]

/-- Row `n` takes the gate of its tile, `n / 512`. -/
theorem gateRow_at (n : Fin 135168) (e : Fin 8) : val_main_v23 (F := Ideal) x5 x6 (ix2 n e) = val_main_v20 (F := Ideal) x5 x6 (ix2 ⟨n.val / 512, by omega⟩ e) := by
  rw [val_main_v23_apply]
  pointwise [val_main_v22, val_main_v21]
  refine congrArg _ (funext fun a => match a with | ⟨0, _⟩ => Fin.ext ?_ | ⟨1, _⟩ => Fin.ext ?_)
  · show (n.val * 8 + e.val) / 4096 = n.val / 512
    omega
  · show (n.val * 8 + e.val) % 8 = e.val
    omega

theorem out_at (n : Fin 135168) (d : Fin 1024) : val_main_v36 (F := Ideal) x0 x1 x2 x3 x4 x5 x6 (ix2 n d)
    = ∑ e : Fin 8, val_main_v20 (F := Ideal) x5 x6 (ix2 ⟨n.val / 512, by omega⟩ e)
        * swiglu (rowN x0 x1 n) (fun k f => x2 (ix3 e k f)) (fun k f => x3 (ix3 e k f)) (fun f d => x4 (ix3 e f d)) d := by
  pointwise [val_main_v36, val_main_cst_2, val_main_v35, val_main_v34, val_main_v33]
  refine Finset.sum_congr rfl fun e _ => ?_
  rw [gateRow_at, expert_at]

/-- A tile without used rows: zero. -/
theorem out_unused (n : Fin 135168) (d : Fin 1024) (h : IntOp.cmpi .sgt (x6 (ix1 ⟨n.val / 512, by omega⟩)) 0#32 = 0#1) :
    val_main_v36 (F := Ideal) x0 x1 x2 x3 x4 x5 x6 (ix2 n d) = (0 : EReal) := by
  rw [out_at]
  refine Finset.sum_eq_zero fun e _ => ?_
  rw [gate_at, h]
  simp [uitofp_bit]

/-- A tile with used rows: its expert's feed-forward. -/
theorem out_used (n : Fin 135168) (d : Fin 1024) (h : IntOp.cmpi .sgt (x6 (ix1 ⟨n.val / 512, by omega⟩)) 0#32 = 1#1)
    (e : Fin 8) (he : x5 (ix1 ⟨n.val / 512, by omega⟩) = BitVec.ofNat 32 e.val) :
    val_main_v36 (F := Ideal) x0 x1 x2 x3 x4 x5 x6 (ix2 n d)
      = swiglu (rowN x0 x1 n) (fun k f => x2 (ix3 e k f)) (fun k f => x3 (ix3 e k f)) (fun f d => x4 (ix3 e f d)) d := by
  rw [out_at, Finset.sum_eq_single e]
  · rw [gate_at, h, he]
    simp [uitofp_bit, IntOp.cmpi]
  · intro e' _ hne
    have hb : (BitVec.ofNat 32 e.val == BitVec.ofNat 32 e'.val) = false := by
      rw [beq_eq_false_iff_ne]
      intro h0
      have h1 := congrArg BitVec.toNat h0
      simp only [BitVec.toNat_ofNat] at h1
      exact hne (Fin.ext (by omega))
    rw [gate_at, he]
    simp [uitofp_bit, IntOp.cmpi, hb]
  · intro h0; exact absurd (Finset.mem_univ e) h0

end Cert.ExpertsRefIdeal.Held

end
-- ==== Proof.FfnValue.lean ====
/- The feed-forward kernel's output array in closed form, and the reference's: the row plus the gated feed-forward of the
   normalised row. -/
module

public import proofs.«01_k».proof.Proof.Math
public import proofs.«01_k».proof.Proof.Gen.FfnIdeal.Value
public import proofs.«01_k».proof.Proof.Gen.FfnRefIdeal.Read
public import Idealize.ShloMosaic.Lib.Pipeline.ValueKit

@[expose] public section

noncomputable section

namespace Cert.Ffw.Dense

open Idealize.ShloMosaic Idealize.ShloMosaic.TcCoe Idealize.SL.Sem Cert.Ffw

/-- Entry `(b, s, d)` of the layer's feed-forward step. -/
def entry (x : Fin 8 → Fin 8192 → Fin 1024 → EReal) (g : Fin 1024 → EReal) (w1 w3 : Fin 1024 → Fin 2816 → EReal) (w2 : Fin 2816 → Fin 1024 → EReal)
    (b : Fin 8) (s : Fin 8192) (d : Fin 1024) : EReal :=
  x b s d + swiglu (normed (x b s) g) w1 w3 w2 d

section Reference

open Cert.FfnRefIdeal Cert.FfnRefIdeal.Gen Cert.FfnRefIdeal.Read

variable (x0 : FVec Ideal S8x8192x1024 .f32) (x1 : FVec Ideal S1024 .f32) (x2 x3 : FVec Ideal S1024x2816 .f32) (x4 : FVec Ideal S2816x1024 .f32)

theorem ref_at (b : Fin 8) (s : Fin 8192) (d : Fin 1024) : val_main_v18 (F := Ideal) x0 x1 x2 x3 x4 (ix3 b s d)
    = entry (fun b s d => x0 (ix3 b s d)) (fun k => x1 (ix1 k)) (fun k f => x2 (ix2 k f)) (fun k f => x3 (ix2 k f)) (fun f d => x4 (ix2 f d)) b s d := by
  pointwise [val_main_v18, val_main_v17, val_main_v16, val_main_v15, val_main_v14, val_main_call0_v5, val_main_call0_v4, val_main_call0_cst_0, val_main_call0_v3, val_main_call0_v2, val_main_call0_cst, val_main_call0_v1, val_main_call0_v0, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

end Reference

section Kernel

open Cert.FfnIdeal Cert.FfnIdeal.Gen

/-- The block a point stores: its rows plus their feed-forwards. -/
theorem block_at (x0 : Vec Ideal S1x512x1024 .f32) (x1 : Vec Ideal S1x1024 .f32) (x2 x3 : Vec Ideal S1024x2816 .bf16) (x4 : Vec Ideal S2816x1024 .bf16) (x5 : Vec Ideal S1x1024 .f32)
    (j : S1x512x1024.Idx) : out0_6 (F := Ideal) x0 x1 x2 x3 x4 x5 j
      = x0 j + swiglu (normed (fun k => x0 (ix3 0 (j 1) k)) (fun k => x1 (ix2 0 k))) (fun k f => x2 (ix2 k f)) (fun k f => x3 (ix2 k f)) (fun f d => x4 (ix2 f d)) (j 2) := by
  unfold_out out0_6
  frame_out
  pointwise [k0_pay1, k0_pay2, k0_pay3, k0_pay4, k0_pay5, k0_pay6, k0_pay7, k0_pay8, k0_pay9]
  simp only [zero_sub]
  unfold swiglu
  rw [sum_2816]
  rfl

variable (m : (ℓ : Loc nD τ sig) → Buf (Elt Ideal) ℓ)

/-- The windows' block indices at a point: batch row and row block for the two streams, the whole array otherwise. -/
theorem index_at : ∀ t : Fin cfg0.N, win0_0.index t = ![(grid0.coords t 0).val, (grid0.coords t 1).val, 0] ∧ win0_1.index t = ![0, 0] ∧ win0_2.index t = ![0, 0]
    ∧ win0_3.index t = ![0, 0] ∧ win0_4.index t = ![0, 0] ∧ win0_6.index t = ![(grid0.coords t 0).val, (grid0.coords t 1).val, 0] :=
  (by decide +kernel : ∀ t : Fin grid0.N, _)

/-- The kernel's output array. -/
theorem array_eq (c : Dev nD) : (dats m 0 c).arrAt 6 cfg0.N = fun i : S8x8192x1024.Idx =>
    entry (fun b s d => m ((c : Thread nD τ).loc main_arg0) (ix3 b s d)) (fun k => m ((c : Thread nD τ).loc main_arg1) (ix1 k)) (fun k f => m ((c : Thread nD τ).loc main_arg2) (ix2 k f))
      (fun k f => m ((c : Thread nD τ).loc main_arg3) (ix2 k f)) (fun f d => m ((c : Thread nD τ).loc main_arg4) (ix2 f d)) (i 0) (i 1) (i 2) := by
  obtain idx := index_at
  refine (dats m 0 c).arrAt_eq_of_covers 6 _ (by decide +kernel) fun t hf y => ?_
  blk_simp
  rw [after0_6, block_at]
  have h0 : ∀ k : Fin 1024, iblk m c 0 t (ix3 0 (y 1) k) = m ((c : Thread nD τ).loc main_arg0) (ix3 (((cfg0.win 6).blk t).view.emb y 0) (((cfg0.win 6).blk t).view.emb y 1) k) := fun k => by
    blk_ext [iblk, V_main_arg0, (idx t).1, (idx t).2.2.2.2.2]
  have h1 : ∀ k : Fin 1024, iblk m c 1 t (ix2 0 k) = m ((c : Thread nD τ).loc main_arg1) (ix1 k) := fun k => by
    blk_simp [iblk]
    entry_read
    pointwise
    blk_ext [(idx t).2.1]
  have h2 : ∀ (k : Fin 1024) (f : Fin 2816), iblk m c 2 t (ix2 k f) = m ((c : Thread nD τ).loc main_arg2) (ix2 k f) := fun k f => by
    blk_ext [iblk, V, (idx t).2.2.1]
  have h3 : ∀ (k : Fin 1024) (f : Fin 2816), iblk m c 3 t (ix2 k f) = m ((c : Thread nD τ).loc main_arg3) (ix2 k f) := fun k f => by
    blk_ext [iblk, V, (idx t).2.2.2.1]
  have h4 : ∀ (f : Fin 2816) (d : Fin 1024), iblk m c 4 t (ix2 f d) = m ((c : Thread nD τ).loc main_arg4) (ix2 f d) := fun f d => by
    blk_ext [iblk, V, (idx t).2.2.2.2.1]
  have hd : (((cfg0.win 6).blk t).view.emb y 2 : Fin 1024) = y 2 := by
    apply Fin.ext
    blk_simp [(idx t).2.2.2.2.2]
  have hx : iblk m c 0 t y = m ((c : Thread nD τ).loc main_arg0) (ix3 (((cfg0.win 6).blk t).view.emb y 0) (((cfg0.win 6).blk t).view.emb y 1) (((cfg0.win 6).blk t).view.emb y 2)) := by
    blk_ext [iblk, V_main_arg0, (idx t).1, (idx t).2.2.2.2.2]
  refine congrArg₂ (fun a b : EReal => a + b) hx ?_
  simp only [h0, h1, h2, h3, h4]
  exact congrArg _ hd.symm

end Kernel

end Cert.Ffw.Dense

end
-- ==== Proof.MergeValue.lean ====
/- The merge of the three branches: the kernel's output array in closed form, and the reference's. Each branch is projected,
   multiplied by its gate of the normalised row, and the sum goes through the output projection onto the row. -/
module

public import proofs.«01_k».proof.Proof.Math
public import proofs.«01_k».proof.Proof.Gen.MergeIdeal.Value
public import proofs.«01_k».proof.Proof.Gen.MergeRefIdeal.Read
public import Idealize.ShloMosaic.Lib.Pipeline.ValueKit

@[expose] public section

noncomputable section

namespace Cert.Ffw.Merge

open Idealize.ShloMosaic Idealize.ShloMosaic.TcCoe Idealize.SL.Sem Cert.Ffw

/-- One branch at channel `k`: the gate of the normalised row `h`, times the projected branch. -/
def branch (h : Fin 1024 → EReal) (wg : Fin 1024 → EReal) (o w : Fin 512 → EReal) : EReal :=
  Ideal.div 1 (1 + Ideal.exp (-(∑ i, h i * wg i))) * ∑ i, o i * w i

/-- The three branches' sum at channel `k`; the gates' weights are the three blocks of columns of `wg`. -/
def merged (h : Fin 1024 → EReal) (wg : Fin 1024 → Fin 3072 → EReal) (oa ob oc : Fin 512 → EReal) (wa wb wc : Fin 512 → Fin 1024 → EReal) (k : Fin 1024) : EReal :=
  branch h (fun i => wg i ⟨k.val, by omega⟩) oa (fun i => wa i k) + branch h (fun i => wg i ⟨1024 + k.val, by omega⟩) ob (fun i => wb i k)
    + branch h (fun i => wg i ⟨2048 + k.val, by omega⟩) oc (fun i => wc i k)

/-- Entry `d` of a row after the merge: the row plus the output projection. -/
def merge (x g : Fin 1024 → EReal) (wg : Fin 1024 → Fin 3072 → EReal) (oa ob oc : Fin 512 → EReal) (wa wb wc : Fin 512 → Fin 1024 → EReal)
    (wo : Fin 1024 → Fin 1024 → EReal) (d : Fin 1024) : EReal :=
  x d + ∑ k, merged (normed x g) wg oa ob oc wa wb wc k * wo k d

/-- The column of the time-major array that holds channel `i` of batch row `b`. -/
def col (b : Fin 8) (i : Fin 512) : Fin 4096 := ⟨b.val * 512 + i.val, by omega⟩

section Reference

open Cert.MergeRefIdeal Cert.MergeRefIdeal.Gen Cert.MergeRefIdeal.Read

variable (x0 : FVec Ideal S8x8192x1024 .f32) (x1 x2 : FVec Ideal S8x8192x512 .bf16) (x3 : FVec Ideal S8192x4096 .bf16) (x4 : FVec Ideal S1024 .f32)
  (x5 : FVec Ideal S1024x6656 .f32) (x6 x7 x8 : FVec Ideal S512x1024 .f32) (x9 : FVec Ideal S1024x1024 .f32)

/-- Row `(b, s)` normalised. -/
abbrev rowN (b : Fin 8) (s : Fin 8192) : Fin 1024 → EReal := normed (fun k => x0 (ix3 b s k)) (fun k => x4 (ix1 k))

theorem h_at (j : S8x8192x1024.Idx) : val_main_v12 (F := Ideal) x0 x4 j = rowN x0 x4 (j 0) (j 1) (j 2) := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  idx_vars j
  rfl

theorem gate_at (b : Fin 8) (s : Fin 8192) (n : Fin 3072) : val_main_v20 (F := Ideal) x0 x4 x5 (ix3 b s n)
    = Ideal.div 1 (1 + Ideal.exp (-(∑ i : Fin 1024, rowN x0 x4 b s i * x5 (ix2 i ⟨3584 + n.val, by omega⟩)))) := by
  have e : val_main_v14 (F := Ideal) x0 x4 x5 (ix3 b s n) = ∑ i : Fin 1024, rowN x0 x4 b s i * x5 (ix2 i ⟨3584 + n.val, by omega⟩) := by
    rw [val_main_v14_apply, val_main_v13_apply]
    refine Finset.sum_congr rfl fun i _ => ?_
    rw [h_at]
    refine congrArg₂ (fun a b : EReal => a * b) rfl (congrArg _ (funext fun a => match a with | ⟨0, _⟩ => rfl | ⟨1, _⟩ => Fin.ext ?_))
    rfl
  pointwise [val_main_v20, val_main_v19, val_main_cst_3, val_main_v18, val_main_v17, val_main_cst_2, val_main_v16, val_main_v15]
  rw [e]

theorem gate3_at (b : Fin 8) (s : Fin 8192) (j : Fin 3) (k : Fin 1024) : val_main_v21 (F := Ideal) x0 x4 x5 (ix4 b s j k)
    = val_main_v20 (F := Ideal) x0 x4 x5 (ix3 b s ⟨j.val * 1024 + k.val, by omega⟩) := by
  rw [val_main_v21_apply]
  refine congrArg _ (funext fun a => match a with | ⟨0, _⟩ => Fin.ext ?_ | ⟨1, _⟩ => Fin.ext ?_ | ⟨2, _⟩ => Fin.ext ?_)
  · show (((b.val * 8192 + s.val) * 3 + j.val) * 1024 + k.val) / 25165824 = b.val
    omega
  · show (((b.val * 8192 + s.val) * 3 + j.val) * 1024 + k.val) / 3072 % 8192 = s.val
    omega
  · show (((b.val * 8192 + s.val) * 3 + j.val) * 1024 + k.val) % 3072 = j.val * 1024 + k.val
    omega

/-- A slice of the gates taken as rows of 1024 channels. -/
theorem gateA_at (b : Fin 8) (s : Fin 8192) (k : Fin 1024) : val_main_v26 (F := Ideal) x0 x4 x5 (ix3 b s k) = val_main_v21 (F := Ideal) x0 x4 x5 (ix4 b s 0 k) := by
  rw [val_main_v26_apply, val_main_v25_apply]
  refine congrArg _ (funext fun a => match a with | ⟨0, _⟩ => Fin.ext ?_ | ⟨1, _⟩ => Fin.ext ?_ | ⟨2, _⟩ => Fin.ext ?_ | ⟨3, _⟩ => Fin.ext ?_)
  · show ((b.val * 8192 + s.val) * 1024 + k.val) / 8388608 = b.val
    omega
  · show ((b.val * 8192 + s.val) * 1024 + k.val) / 1024 % 8192 = s.val
    omega
  · rfl
  · show ((b.val * 8192 + s.val) * 1024 + k.val) % 1024 = k.val
    omega

theorem gateB_at (b : Fin 8) (s : Fin 8192) (k : Fin 1024) : val_main_v31 (F := Ideal) x0 x4 x5 (ix3 b s k) = val_main_v21 (F := Ideal) x0 x4 x5 (ix4 b s 1 k) := by
  rw [val_main_v31_apply, val_main_v30_apply]
  refine congrArg _ (funext fun a => match a with | ⟨0, _⟩ => Fin.ext ?_ | ⟨1, _⟩ => Fin.ext ?_ | ⟨2, _⟩ => Fin.ext ?_ | ⟨3, _⟩ => Fin.ext ?_)
  · show ((b.val * 8192 + s.val) * 1024 + k.val) / 8388608 = b.val
    omega
  · show ((b.val * 8192 + s.val) * 1024 + k.val) / 1024 % 8192 = s.val
    omega
  · rfl
  · show ((b.val * 8192 + s.val) * 1024 + k.val) % 1024 = k.val
    omega

theorem gateC_at (b : Fin 8) (s : Fin 8192) (k : Fin 1024) : val_main_v37 (F := Ideal) x0 x4 x5 (ix3 b s k) = val_main_v21 (F := Ideal) x0 x4 x5 (ix4 b s 2 k) := by
  rw [val_main_v37_apply, val_main_v36_apply]
  refine congrArg _ (funext fun a => match a with | ⟨0, _⟩ => Fin.ext ?_ | ⟨1, _⟩ => Fin.ext ?_ | ⟨2, _⟩ => Fin.ext ?_ | ⟨3, _⟩ => Fin.ext ?_)
  · show ((b.val * 8192 + s.val) * 1024 + k.val) / 8388608 = b.val
    omega
  · show ((b.val * 8192 + s.val) * 1024 + k.val) / 1024 % 8192 = s.val
    omega
  · rfl
  · show ((b.val * 8192 + s.val) * 1024 + k.val) % 1024 = k.val
    omega

/-- The third branch, found time-major: row `(b, s)` is the 512 columns from `512 * b` of row `s`. -/
theorem oc_at (b : Fin 8) (s : Fin 8192) (i : Fin 512) : val_main_v24 (F := Ideal) x3 (ix3 b s i) = x3 (ix2 s (col b i)) := by
  rw [val_main_v24_apply, val_main_v23_apply, val_main_v22_apply]
  show x3 _ = _
  refine congrArg x3 (funext fun a => match a with | ⟨0, _⟩ => Fin.ext ?_ | ⟨1, _⟩ => Fin.ext ?_)
  · show ((s.val * 8 + b.val) * 512 + i.val) / 4096 = s.val
    omega
  · show ((s.val * 8 + b.val) * 512 + i.val) % 4096 = b.val * 512 + i.val
    omega

/-- The gates' weights: the last three blocks of 1024 columns. -/
abbrev gates (w : Fin 1024 → Fin 6656 → EReal) : Fin 1024 → Fin 3072 → EReal := fun i n => w i ⟨3584 + n.val, by omega⟩

theorem merged_at (b : Fin 8) (s : Fin 8192) (k : Fin 1024) : val_main_v40 (F := Ideal) x0 x1 x2 x3 x4 x5 x6 x7 x8 (ix3 b s k)
    = merged (rowN x0 x4 b s) (gates fun i n => x5 (ix2 i n)) (fun i => x1 (ix3 b s i)) (fun i => x2 (ix3 b s i)) (fun i => x3 (ix2 s (col b i)))
        (fun i k => x6 (ix2 i k)) (fun i k => x7 (ix2 i k)) (fun i k => x8 (ix2 i k)) k := by
  have ea : val_main_v28 (F := Ideal) x1 x6 (ix3 b s k) = ∑ i : Fin 512, x1 (ix3 b s i) * x6 (ix2 i k) := by
    pointwise [val_main_v28, val_main_v27]
  have eb : val_main_v33 (F := Ideal) x2 x7 (ix3 b s k) = ∑ i : Fin 512, x2 (ix3 b s i) * x7 (ix2 i k) := by
    pointwise [val_main_v33, val_main_v32]
  have ec : val_main_v38 (F := Ideal) x3 x8 (ix3 b s k) = ∑ i : Fin 512, x3 (ix2 s (col b i)) * x8 (ix2 i k) := by
    refine (val_main_v38_apply x3 x8 _).trans (Finset.sum_congr rfl fun i _ => congrArg₂ (fun a b : EReal => a * b) ?_ ?_)
    · refine Eq.trans (congrArg _ (funext fun a => match a with | ⟨0, _⟩ => rfl | ⟨1, _⟩ => rfl | ⟨2, _⟩ => rfl)) (oc_at x3 b s i)
    · exact congrArg x8 (funext fun a => match a with | ⟨0, _⟩ => rfl | ⟨1, _⟩ => rfl)
  rw [val_main_v40_apply, val_main_v35_apply, val_main_v29_apply, val_main_v34_apply, val_main_v39_apply, gateA_at, gateB_at, gateC_at, gate3_at, gate3_at, gate3_at, gate_at, gate_at, gate_at, ea, eb, ec]
  unfold merged branch
  refine congrArg₂ (fun a b : EReal => a + b) (congrArg₂ (fun a b : EReal => a + b) ?_ ?_) ?_
  all_goals
    refine congrArg₂ (fun a b : EReal => a * b) (congrArg (fun a : EReal => Ideal.div 1 (1 + Ideal.exp (-a))) (Finset.sum_congr rfl fun i _ => congrArg₂ (fun a b : EReal => a * b) rfl (congrArg x5 (funext fun a => match a with | ⟨0, _⟩ => rfl | ⟨1, _⟩ => Fin.ext ?_)))) rfl
    show 3584 + _ = 3584 + _
    simp

theorem ref_at (b : Fin 8) (s : Fin 8192) (d : Fin 1024) : val_main_v42 (F := Ideal) x0 x1 x2 x3 x4 x5 x6 x7 x8 x9 (ix3 b s d)
    = merge (fun k => x0 (ix3 b s k)) (fun k => x4 (ix1 k)) (gates fun i n => x5 (ix2 i n)) (fun i => x1 (ix3 b s i)) (fun i => x2 (ix3 b s i))
        (fun i => x3 (ix2 s (col b i))) (fun i k => x6 (ix2 i k)) (fun i k => x7 (ix2 i k)) (fun i k => x8 (ix2 i k)) (fun k d => x9 (ix2 k d)) d := by
  rw [val_main_v42_apply, val_main_v41_apply]
  unfold merge
  refine congrArg₂ (fun a b : EReal => a + b) rfl (Finset.sum_congr rfl fun k _ => congrArg₂ (fun a b : EReal => a * b) ?_ ?_)
  · refine Eq.trans (congrArg (val_main_v40 (F := Ideal) x0 x1 x2 x3 x4 x5 x6 x7 x8) (show lidx_main_v41 (ix3 b s d) k = ix3 b s k from funext fun a => match a with | ⟨0, _⟩ => rfl | ⟨1, _⟩ => rfl | ⟨2, _⟩ => rfl)) (merged_at x0 x1 x2 x3 x4 x5 x6 x7 x8 b s k)
  · exact congrArg x9 (funext fun a => match a with | ⟨0, _⟩ => rfl | ⟨1, _⟩ => rfl)

end Reference

section Kernel

open Cert.MergeIdeal Cert.MergeIdeal.Gen

/-- The block a point stores: its rows merged. -/
theorem block_at (x0 : Vec Ideal S1x512x1024 .f32) (x1 x2 : Vec Ideal S1x512x512 .bf16) (x3 : Vec Ideal S512x512 .bf16) (x4 : Vec Ideal S1x1024 .f32) (x5 : Vec Ideal S1024x3072 .bf16)
    (x6 x7 x8 : Vec Ideal S512x1024 .bf16) (x9 : Vec Ideal S1024x1024 .bf16) (j : S1x512x1024.Idx) : out0_10 (F := Ideal) x0 x1 x2 x3 x4 x5 x6 x7 x8 x9 j
      = x0 j + ∑ k : Fin 1024, merged (normed (fun k => x0 (ix3 0 (j 1) k)) (fun k => x4 (ix2 0 k))) (fun i n => x5 (ix2 i n)) (fun i => x1 (ix3 0 (j 1) i)) (fun i => x2 (ix3 0 (j 1) i))
          (fun i => x3 (ix2 (j 1) i)) (fun i k => x6 (ix2 i k)) (fun i k => x7 (ix2 i k)) (fun i k => x8 (ix2 i k)) k * x9 (ix2 k (j 2)) := by
  unfold out0_10
  frame_out
  pointwise [k0_pay1, k0_pay2, k0_pay3, k0_pay4, k0_pay5, k0_pay6]
  simp only [zero_sub]
  unfold merged branch
  rfl

variable (m : (ℓ : Loc nD τ sig) → Buf (Elt Ideal) ℓ)

/-- The windows' block indices at a point: batch row and row block for the streams, the other way round for the time-major one, the whole array otherwise. -/
theorem index_at : ∀ t : Fin cfg0.N, win0_0.index t = ![(grid0.coords t 0).val, (grid0.coords t 1).val, 0] ∧ win0_1.index t = ![(grid0.coords t 0).val, (grid0.coords t 1).val, 0]
    ∧ win0_2.index t = ![(grid0.coords t 0).val, (grid0.coords t 1).val, 0] ∧ win0_3.index t = ![(grid0.coords t 1).val, (grid0.coords t 0).val] ∧ win0_10.index t = ![(grid0.coords t 0).val, (grid0.coords t 1).val, 0] :=
  (by decide +kernel : ∀ t : Fin grid0.N, _)

/-- The weights' windows hold the whole array at every point. -/
theorem index_whole : ∀ t : Fin cfg0.N, win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

-- ten windows' blocks are read in one proof
set_option maxHeartbeats 2000000 in
/-- The kernel's output array. -/
theorem array_eq (c : Dev nD) : (dats m 0 c).arrAt 10 cfg0.N = fun i : S8x8192x1024.Idx =>
    merge (fun k => m ((c : Thread nD τ).loc main_arg0) (ix3 (i 0) (i 1) k)) (fun k => m ((c : Thread nD τ).loc main_arg4) (ix1 k)) (gates fun k n => m ((c : Thread nD τ).loc main_arg5) (ix2 k n))
      (fun k => m ((c : Thread nD τ).loc main_arg1) (ix3 (i 0) (i 1) k)) (fun k => m ((c : Thread nD τ).loc main_arg2) (ix3 (i 0) (i 1) k))
      (fun k => m ((c : Thread nD τ).loc main_arg3) (ix2 (i 1) (col (i 0) k)))
      (fun k d => m ((c : Thread nD τ).loc main_arg6) (ix2 k d)) (fun k d => m ((c : Thread nD τ).loc main_arg7) (ix2 k d)) (fun k d => m ((c : Thread nD τ).loc main_arg8) (ix2 k d))
      (fun k d => m ((c : Thread nD τ).loc main_arg9) (ix2 k d)) (i 2) := by
  obtain idx := index_at
  obtain whole := index_whole
  refine (dats m 0 c).arrAt_eq_of_covers 10 _ (by decide +kernel) fun t hf y => ?_
  blk_simp
  rw [after0_10, block_at]
  have h0 : ∀ k : Fin 1024, iblk m c 0 t (ix3 0 (y 1) k) = m ((c : Thread nD τ).loc main_arg0) (ix3 (((cfg0.win 10).blk t).view.emb y 0) (((cfg0.win 10).blk t).view.emb y 1) k) := fun k => by
    blk_ext [iblk, V_main_arg0, (idx t).1, (idx t).2.2.2.2]
  have h1 : ∀ k : Fin 512, iblk m c 1 t (ix3 0 (y 1) k) = m ((c : Thread nD τ).loc main_arg1) (ix3 (((cfg0.win 10).blk t).view.emb y 0) (((cfg0.win 10).blk t).view.emb y 1) k) := fun k => by
    blk_ext [iblk, V_main_arg1, (idx t).2.1, (idx t).2.2.2.2]
  have h2 : ∀ k : Fin 512, iblk m c 2 t (ix3 0 (y 1) k) = m ((c : Thread nD τ).loc main_arg2) (ix3 (((cfg0.win 10).blk t).view.emb y 0) (((cfg0.win 10).blk t).view.emb y 1) k) := fun k => by
    blk_ext [iblk, V_main_arg2, (idx t).2.2.1, (idx t).2.2.2.2]
  have h3 : ∀ k : Fin 512, iblk m c 3 t (ix2 (y 1) k) = m ((c : Thread nD τ).loc main_arg3) (ix2 (((cfg0.win 10).blk t).view.emb y 1) (col (((cfg0.win 10).blk t).view.emb y 0) k)) := fun k => by
    blk_ext [iblk, V_main_arg3, col, (idx t).2.2.2.1, (idx t).2.2.2.2]
  have h4 : ∀ k : Fin 1024, iblk m c 4 t (ix2 0 k) = m ((c : Thread nD τ).loc main_arg4) (ix1 k) := fun k => by
    blk_simp [iblk]
    entry_read
    pointwise
    blk_ext [(whole t).1]
  have h5 : ∀ (k : Fin 1024) (n : Fin 3072), iblk m c 5 t (ix2 k n) = m ((c : Thread nD τ).loc main_arg5) (ix2 k ⟨3584 + n.val, by omega⟩) := fun k n => by
    blk_simp [iblk]
    entry_read
    pointwise
    blk_ext [(whole t).2.1]
  have h6 : ∀ (k : Fin 512) (d : Fin 1024), iblk m c 6 t (ix2 k d) = m ((c : Thread nD τ).loc main_arg6) (ix2 k d) := fun k d => by
    blk_simp [iblk]
    entry_read
    pointwise
    blk_ext [(whole t).2.2.1]
  have h7 : ∀ (k : Fin 512) (d : Fin 1024), iblk m c 7 t (ix2 k d) = m ((c : Thread nD τ).loc main_arg7) (ix2 k d) := fun k d => by
    blk_simp [iblk]
    entry_read
    pointwise
    blk_ext [(whole t).2.2.2.1]
  have h8 : ∀ (k : Fin 512) (d : Fin 1024), iblk m c 8 t (ix2 k d) = m ((c : Thread nD τ).loc main_arg8) (ix2 k d) := fun k d => by
    blk_simp [iblk]
    entry_read
    pointwise
    blk_ext [(whole t).2.2.2.2.1]
  have h9 : ∀ (k : Fin 1024) (d : Fin 1024), iblk m c 9 t (ix2 k d) = m ((c : Thread nD τ).loc main_arg9) (ix2 k d) := fun k d => by
    blk_simp [iblk]
    entry_read
    pointwise
    blk_ext [(whole t).2.2.2.2.2]
  have hd : (((cfg0.win 10).blk t).view.emb y 2 : Fin 1024) = y 2 := by
    apply Fin.ext
    blk_simp [(idx t).2.2.2.2]
  have hx : iblk m c 0 t y = m ((c : Thread nD τ).loc main_arg0) (ix3 (((cfg0.win 10).blk t).view.emb y 0) (((cfg0.win 10).blk t).view.emb y 1) (((cfg0.win 10).blk t).view.emb y 2)) := by
    blk_ext [iblk, V_main_arg0, (idx t).1, (idx t).2.2.2.2]
  unfold merge
  refine congrArg₂ (fun a b : EReal => a + b) hx ?_
  simp only [h0, h1, h2, h3, h4, h5, h6, h7, h8]
  exact Finset.sum_congr rfl fun k _ => congrArg₂ (fun a b : EReal => a * b) rfl ((h9 k (y 2)).trans (congrArg (fun d : Fin 1024 => m ((c : Thread nD τ).loc main_arg9) (ix2 k d)) hd.symm))

end Kernel

end Cert.Ffw.Merge

end
-- ==== Proof.ProjValue.lean ====
/- The input projection: the kernel's eleven output arrays in closed form, and the reference's. Every one is a piece of the
   projected normalised rows: the queries multiplied by the score scale, the keys and values as they are, transposed in blocks of
   512 rows, per head in a cache's slot, or the last 512 rows; and the third branch's input time-major. -/
module

public import proofs.«01_k».proof.Proof.Math
public import proofs.«01_k».proof.Proof.Gen.ProjIdeal.Value
public import proofs.«01_k».proof.Proof.Gen.ProjRefIdeal.Read
public import Idealize.ShloMosaic.Lib.Pipeline.ValueKit

@[expose] public section

set_option maxRecDepth 16384

noncomputable section

namespace Cert.Ffw.Proj

open Idealize.ShloMosaic Idealize.ShloMosaic.TcCoe Idealize.SL.Sem Cert.Ffw

/-- Channel `n` of a normalised row's projection. -/
def proj {N : ℕ} (x g : Fin 1024 → EReal) (w : Fin 1024 → Fin N → EReal) (n : Fin N) : EReal := ∑ i, normed x g i * w i n

/-- Channel `k` of the 512 that start at channel `o`. -/
def chan {N : ℕ} (o : ℕ) (h : o + 512 ≤ N) (k : Fin 512) : Fin N := ⟨o + k.val, by omega⟩

/-- Entry `e` of head `a`, of four heads of 128 entries each. -/
def head (a : Fin 4) (e : Fin 128) : Fin 512 := ⟨a.val * 128 + e.val, by omega⟩

/-- The scale of the attention scores. -/
abbrev scale : EReal := Ideal.ofBits FTy.f32 0x3E38AA3B#32

/-- Row `r` of row block `t`. -/
def rowOf (t : Fin 16) (r : Fin 512) : Fin 8192 := ⟨t.val * 512 + r.val, by omega⟩

section Reference

open Cert.ProjRefIdeal Cert.ProjRefIdeal.Gen Cert.ProjRefIdeal.Read

variable (x0 : FVec Ideal S8x8192x1024 .f32) (x1 : FVec Ideal S1024 .f32) (x2 : FVec Ideal S1024x6656 .f32)

/-- Channel `n` of row `(b, s)`. -/
abbrev at0 (b : Fin 8) (s : Fin 8192) (n : Fin 6656) : EReal := proj (fun k => x0 (ix3 b s k)) (fun k => x1 (ix1 k)) (fun i n => x2 (ix2 i n)) n

theorem h_at (j : S8x8192x1024.Idx) : val_main_v12 (F := Ideal) x0 x1 j = normed (fun k => x0 (ix3 (j 0) (j 1) k)) (fun k => x1 (ix1 k)) (j 2) := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  idx_vars j
  rfl

theorem dot_at (j : S8x8192x6656.Idx) : val_main_v13 (F := Ideal) x0 x1 x2 j = at0 x0 x1 x2 (j 0) (j 1) (j 2) := by
  rw [val_main_v13_apply]
  unfold at0 proj
  refine Finset.sum_congr rfl fun i _ => ?_
  rw [h_at]
  exact congrArg₂ (fun a b : EReal => a * b) rfl (congrArg x2 (funext fun a => match a with | ⟨0, _⟩ => rfl | ⟨1, _⟩ => rfl))

theorem v14_at (j : S8x8192x512.Idx) : val_main_v14 (F := Ideal) x0 x1 x2 j = at0 x0 x1 x2 (j 0) (j 1) (chan 0 (by decide) (j 2)) := by
  rw [val_main_v14_apply, dot_at]
  exact congrArg (at0 x0 x1 x2 (j 0) (j 1)) (Fin.ext (Nat.zero_add _).symm)

theorem v15_at (j : S8x8192x512.Idx) : val_main_v15 (F := Ideal) x0 x1 x2 j = at0 x0 x1 x2 (j 0) (j 1) (chan 512 (by decide) (j 2)) := by
  rw [val_main_v15_apply, dot_at]
  rfl

theorem v16_at (j : S8x8192x512.Idx) : val_main_v16 (F := Ideal) x0 x1 x2 j = at0 x0 x1 x2 (j 0) (j 1) (chan 1024 (by decide) (j 2)) := by
  rw [val_main_v16_apply, dot_at]
  rfl

theorem v17_at (j : S8x8192x512.Idx) : val_main_v17 (F := Ideal) x0 x1 x2 j = at0 x0 x1 x2 (j 0) (j 1) (chan 1536 (by decide) (j 2)) := by
  rw [val_main_v17_apply, dot_at]
  rfl

theorem v18_at (j : S8x8192x512.Idx) : val_main_v18 (F := Ideal) x0 x1 x2 j = at0 x0 x1 x2 (j 0) (j 1) (chan 2048 (by decide) (j 2)) := by
  rw [val_main_v18_apply, dot_at]
  rfl

theorem v19_at (j : S8x8192x512.Idx) : val_main_v19 (F := Ideal) x0 x1 x2 j = at0 x0 x1 x2 (j 0) (j 1) (chan 2560 (by decide) (j 2)) := by
  rw [val_main_v19_apply, dot_at]
  rfl

theorem v20_at (j : S8x8192x512.Idx) : val_main_v20 (F := Ideal) x0 x1 x2 j = at0 x0 x1 x2 (j 0) (j 1) (chan 3072 (by decide) (j 2)) := by
  rw [val_main_v20_apply, dot_at]
  rfl

/-- The first attention's queries. -/
theorem v23_at (j : S8x8192x512.Idx) : val_main_v23 (F := Ideal) x0 x1 x2 j = at0 x0 x1 x2 (j 0) (j 1) (chan 0 (by decide) (j 2)) * scale := by
  rw [val_main_v23_apply, val_main_v22_apply, v14_at, val_main_v21_apply, val_main_cst_2_apply]
  rfl

/-- The second attention's queries. -/
theorem v40_at (j : S8x8192x512.Idx) : val_main_v40 (F := Ideal) x0 x1 x2 j = at0 x0 x1 x2 (j 0) (j 1) (chan 1536 (by decide) (j 2)) * scale := by
  rw [val_main_v40_apply, val_main_v39_apply, v17_at, val_main_v38_apply, val_main_cst_5_apply]
  rfl

/-- The first attention's keys. -/
theorem v34_at (j : S8x8192x512.Idx) : val_main_v34 (F := Ideal) x0 x1 x2 j = at0 x0 x1 x2 (j 0) (j 1) (chan 512 (by decide) (j 2)) := by
  rw [val_main_v34_apply, v15_at]
  rfl

/-- The second attention's keys. -/
theorem v43_at (j : S8x8192x512.Idx) : val_main_v43 (F := Ideal) x0 x1 x2 j = at0 x0 x1 x2 (j 0) (j 1) (chan 2048 (by decide) (j 2)) := by
  rw [val_main_v43_apply, v18_at]
  rfl

theorem v24_at (b : Fin 8) (s : Fin 8192) (a : Fin 4) (e : Fin 128) : val_main_v24 (F := Ideal) x0 x1 x2 (ix4 b s a e) = at0 x0 x1 x2 b s (chan 512 (by decide) (head a e)) := by
  refine (val_main_v24_apply x0 x1 x2 _).trans (Eq.trans (congrArg (val_main_v15 (F := Ideal) x0 x1 x2) (show idx_main_v24 (ix4 b s a e) = ix3 b s (head a e) from funext fun q => match q with | ⟨0, _⟩ => Fin.ext ?_ | ⟨1, _⟩ => Fin.ext ?_ | ⟨2, _⟩ => Fin.ext ?_)) (v15_at x0 x1 x2 _))
  · show (((b.val * 8192 + s.val) * 4 + a.val) * 128 + e.val) / 4194304 = b.val
    omega
  · show (((b.val * 8192 + s.val) * 4 + a.val) * 128 + e.val) / 512 % 8192 = s.val
    omega
  · show (((b.val * 8192 + s.val) * 4 + a.val) * 128 + e.val) % 512 = a.val * 128 + e.val
    omega

/-- The cache of the keys: this layer's slot, and zeros in the other. -/
theorem v28_at (j : S2x8x8192x4x128.Idx) : val_main_v28 (F := Ideal) x0 x1 x2 j = if (j 0).val < 1 then at0 x0 x1 x2 (j 1) (j 2) (chan 512 (by decide) (head (j 3) (j 4))) else 0 := by
  pointwise [val_main_v28, val_main_v27, val_main_v26, val_main_v25, val_main_cst_3]
  refine if_congr Iff.rfl ?_ ?_
  · exact v24_at x0 x1 x2 (j 1) (j 2) (j 3) (j 4)
  · rfl

theorem v29_at (b : Fin 8) (s : Fin 8192) (a : Fin 4) (e : Fin 128) : val_main_v29 (F := Ideal) x0 x1 x2 (ix4 b s a e) = at0 x0 x1 x2 b s (chan 1024 (by decide) (head a e)) := by
  refine (val_main_v29_apply x0 x1 x2 _).trans (Eq.trans (congrArg (val_main_v16 (F := Ideal) x0 x1 x2) (show idx_main_v29 (ix4 b s a e) = ix3 b s (head a e) from funext fun q => match q with | ⟨0, _⟩ => Fin.ext ?_ | ⟨1, _⟩ => Fin.ext ?_ | ⟨2, _⟩ => Fin.ext ?_)) (v16_at x0 x1 x2 _))
  · show (((b.val * 8192 + s.val) * 4 + a.val) * 128 + e.val) / 4194304 = b.val
    omega
  · show (((b.val * 8192 + s.val) * 4 + a.val) * 128 + e.val) / 512 % 8192 = s.val
    omega
  · show (((b.val * 8192 + s.val) * 4 + a.val) * 128 + e.val) % 512 = a.val * 128 + e.val
    omega

/-- The cache of the values: this layer's slot, and zeros in the other. -/
theorem v33_at (j : S2x8x8192x4x128.Idx) : val_main_v33 (F := Ideal) x0 x1 x2 j = if (j 0).val < 1 then at0 x0 x1 x2 (j 1) (j 2) (chan 1024 (by decide) (head (j 3) (j 4))) else 0 := by
  pointwise [val_main_v33, val_main_v32, val_main_v31, val_main_v30, val_main_cst_4]
  refine if_congr Iff.rfl ?_ ?_
  · exact v29_at x0 x1 x2 (j 1) (j 2) (j 3) (j 4)
  · rfl

/-- The first attention's values, transposed in blocks of 512 rows. -/
theorem v37_at (j : S8x16x512x512.Idx) : val_main_v37 (F := Ideal) x0 x1 x2 j = at0 x0 x1 x2 (j 0) (rowOf (j 1) (j 3)) (chan 1024 (by decide) (j 2)) := by
  have e : ∀ (b : Fin 8) (t : Fin 16) (r k : Fin 512), val_main_v35 (F := Ideal) x0 x1 x2 (ix4 b t r k) = at0 x0 x1 x2 b (rowOf t r) (chan 1024 (by decide) k) := by
    intro b t r k
    refine (val_main_v35_apply x0 x1 x2 _).trans (Eq.trans (congrArg (val_main_v16 (F := Ideal) x0 x1 x2) (show idx_main_v35 (ix4 b t r k) = ix3 b (rowOf t r) k from funext fun q => match q with | ⟨0, _⟩ => Fin.ext ?_ | ⟨1, _⟩ => Fin.ext ?_ | ⟨2, _⟩ => Fin.ext ?_)) (v16_at x0 x1 x2 _))
    · show (((b.val * 16 + t.val) * 512 + r.val) * 512 + k.val) / 4194304 = b.val
      omega
    · show (((b.val * 16 + t.val) * 512 + r.val) * 512 + k.val) / 512 % 8192 = t.val * 512 + r.val
      omega
    · show (((b.val * 16 + t.val) * 512 + r.val) * 512 + k.val) % 512 = k.val
      omega
  rw [val_main_v37_apply, val_main_v36_apply]
  exact Eq.trans (congrArg (val_main_v35 (F := Ideal) x0 x1 x2) (show idx_main_v36 j = ix4 (j 0) (j 1) (j 3) (j 2) from funext fun q => match q with | ⟨0, _⟩ => rfl | ⟨1, _⟩ => rfl | ⟨2, _⟩ => rfl | ⟨3, _⟩ => rfl)) (e (j 0) (j 1) (j 3) (j 2))

/-- The second attention's values, transposed in blocks of 512 rows. -/
theorem v46_at (j : S8x16x512x512.Idx) : val_main_v46 (F := Ideal) x0 x1 x2 j = at0 x0 x1 x2 (j 0) (rowOf (j 1) (j 3)) (chan 2560 (by decide) (j 2)) := by
  have e : ∀ (b : Fin 8) (t : Fin 16) (r k : Fin 512), val_main_v44 (F := Ideal) x0 x1 x2 (ix4 b t r k) = at0 x0 x1 x2 b (rowOf t r) (chan 2560 (by decide) k) := by
    intro b t r k
    refine (val_main_v44_apply x0 x1 x2 _).trans (Eq.trans (congrArg (val_main_v19 (F := Ideal) x0 x1 x2) (show idx_main_v44 (ix4 b t r k) = ix3 b (rowOf t r) k from funext fun q => match q with | ⟨0, _⟩ => Fin.ext ?_ | ⟨1, _⟩ => Fin.ext ?_ | ⟨2, _⟩ => Fin.ext ?_)) (v19_at x0 x1 x2 _))
    · show (((b.val * 16 + t.val) * 512 + r.val) * 512 + k.val) / 4194304 = b.val
      omega
    · show (((b.val * 16 + t.val) * 512 + r.val) * 512 + k.val) / 512 % 8192 = t.val * 512 + r.val
      omega
    · show (((b.val * 16 + t.val) * 512 + r.val) * 512 + k.val) % 512 = k.val
      omega
  rw [val_main_v46_apply, val_main_v45_apply]
  exact Eq.trans (congrArg (val_main_v44 (F := Ideal) x0 x1 x2) (show idx_main_v45 j = ix4 (j 0) (j 1) (j 3) (j 2) from funext fun q => match q with | ⟨0, _⟩ => rfl | ⟨1, _⟩ => rfl | ⟨2, _⟩ => rfl | ⟨3, _⟩ => rfl)) (e (j 0) (j 1) (j 3) (j 2))

/-- The second attention's keys of the last 512 rows. -/
theorem v41_at (j : S8x512x512.Idx) : val_main_v41 (F := Ideal) x0 x1 x2 j = at0 x0 x1 x2 (j 0) (rowOf 15 (j 1)) (chan 2048 (by decide) (j 2)) := by
  rw [val_main_v41_apply, v18_at]
  rfl

/-- The second attention's values of the last 512 rows. -/
theorem v42_at (j : S8x512x512.Idx) : val_main_v42 (F := Ideal) x0 x1 x2 j = at0 x0 x1 x2 (j 0) (rowOf 15 (j 1)) (chan 2560 (by decide) (j 2)) := by
  rw [val_main_v42_apply, v19_at]
  rfl

/-- The third branch's input, time-major: batch row `b` at the 512 columns from `512 * b`. -/
theorem v48_at (j : S8192x4096.Idx) : val_main_v48 (F := Ideal) x0 x1 x2 j
    = at0 x0 x1 x2 ⟨(j 1).val / 512, by have h : (j 1).val < 4096 := (j 1).isLt; omega⟩ (j 0) (chan 3072 (by decide) ⟨(j 1).val % 512, by omega⟩) := by
  have h1 : (j 1).val < 4096 := (j 1).isLt
  have h0 : (j 0).val < 8192 := (j 0).isLt
  rw [val_main_v48_apply, val_main_v47_apply, v20_at]
  have ea : (⟨((j 0).val * 4096 + (j 1).val) / 512 % 8, by omega⟩ : Fin 8) = ⟨(j 1).val / 512, by omega⟩ := Fin.ext (by show ((j 0).val * 4096 + (j 1).val) / 512 % 8 = (j 1).val / 512; omega)
  have eb : (⟨((j 0).val * 4096 + (j 1).val) / 4096, by omega⟩ : Fin 8192) = j 0 := Fin.ext (by show ((j 0).val * 4096 + (j 1).val) / 4096 = (j 0).val; omega)
  have ec : (⟨((j 0).val * 4096 + (j 1).val) % 512, by omega⟩ : Fin 512) = ⟨(j 1).val % 512, by omega⟩ := Fin.ext (by show ((j 0).val * 4096 + (j 1).val) % 512 = (j 1).val % 512; omega)
  show at0 x0 x1 x2 ⟨((j 0).val * 4096 + (j 1).val) / 512 % 8, _⟩ ⟨((j 0).val * 4096 + (j 1).val) / 4096, _⟩ (chan 3072 _ ⟨((j 0).val * 4096 + (j 1).val) % 512, _⟩) = _
  rw [ea, eb, ec]

end Reference

/-- A payload behind two unit axes, read without them. -/
theorem payAlong_two {V : Type} {d : Fin 3 → Nat} (r : Rect ⟨3, d⟩) (sz : Fin 4 → Nat) (h0 : sz 0 = 1) (hs : ∀ i, sz i.succ = d i) (sz' : Fin 5 → Nat) (h0' : sz' 0 = 1)
    (hs' : ∀ i, sz' i.succ = sz i) (w : r.shape.Idx → V) (hR : ((r.consLift sz h0 hs).consLift sz' h0' hs').shape.numel = r.shape.numel)
    (x : ((r.consLift sz h0 hs).consLift sz' h0' hs').shape.Idx) (z : r.shape.Idx) (hz : ∀ i, (z i).val = (x i.succ.succ).val) : Rect.payAlong hR w x = w z := by
  refine congrArg w (funext fun i => Fin.ext ?_)
  have e := Shape.reshapeEquiv_reshapeEquiv (r.numel_consLift sz h0 hs) ((r.consLift sz h0 hs).numel_consLift sz' h0' hs') x
  rw [show Shape.reshapeEquiv hR x = _ from e.symm, hz i, ← r.reshapeEquiv_consLift_succ sz h0 hs, ← (r.consLift sz h0 hs).reshapeEquiv_consLift_succ sz' h0' hs']

section Kernel

open Cert.ProjIdeal Cert.ProjIdeal.Gen

variable (m : (ℓ : Loc nD τ sig) → Buf (Elt Ideal) ℓ)

/-- Channel `n` of row `r` of the block at point `t`, from the windows' blocks. -/
abbrev row (c : Dev nD) (t : Fin cfg0.N) (r : Fin 512) (n : Fin 3584) : EReal :=
  proj (fun k => iblk m c 0 t (ix3 0 r k)) (fun k => iblk m c 1 t (ix2 0 k)) (fun i n => iblk m c 2 t (ix2 i n)) n

/-- Channel `n` of row `(b, s)`, from the arguments. -/
abbrev at1 (c : Dev nD) (b : Fin 8) (s : Fin 8192) (n : Fin 6656) : EReal :=
  proj (fun k => m ((c : Thread nD τ).loc main_arg0) (ix3 b s k)) (fun k => m ((c : Thread nD τ).loc main_arg1) (ix1 k)) (fun i n => m ((c : Thread nD τ).loc main_arg2) (ix2 i n)) n

theorem index_in : ∀ t : Fin cfg0.N, win0_0.index t = ![(grid0.coords t 0).val, (grid0.coords t 1).val, 0] ∧ win0_1.index t = ![0, 0] ∧ win0_2.index t = ![0, 0] :=
  (by decide +kernel : ∀ t : Fin grid0.N, _)

/-- A row of a point's block is the argument's row. -/
theorem row_eq (c : Dev nD) (t : Fin cfg0.N) (r : Fin 512) (n : Fin 3584) (b : Fin 8) (s : Fin 8192) (n' : Fin 6656) (hb : b.val = (grid0.coords t 0).val)
    (hs : s.val = (grid0.coords t 1).val * 512 + r.val) (hn : n'.val = n.val) : row m c t r n = at1 m c b s n' := by
  have h0 : ∀ k : Fin 1024, iblk m c 0 t (ix3 0 r k) = m ((c : Thread nD τ).loc main_arg0) (ix3 b s k) := fun k => by
    blk_ext [iblk, V_main_arg0, (index_in t).1, hb, hs]
  have h1 : ∀ k : Fin 1024, iblk m c 1 t (ix2 0 k) = m ((c : Thread nD τ).loc main_arg1) (ix1 k) := fun k => by
    blk_simp [iblk]
    entry_read
    pointwise
    blk_ext [(index_in t).2.1]
  have h2 : ∀ k : Fin 1024, iblk m c 2 t (ix2 k n) = m ((c : Thread nD τ).loc main_arg2) (ix2 k n') := fun k => by
    blk_simp [iblk]
    entry_read
    pointwise
    blk_ext [(index_in t).2.2, hn]
  unfold row at1 proj
  simp only [h0, h1, h2]

theorem out3 (c : Dev nD) (t : Fin cfg0.N) (y : S1x512x512.Idx) : (outsAt0 m c t).1 y = row m c t (y 1) (chan 0 (by decide) (y 2)) * scale := by
  unfold outsAt0
  dsimp only
  frame_out
  pointwise [k0_pay11, k0_pay10, k0_pay9]
  refine congrArg (fun a : EReal => a * scale) (Finset.sum_congr rfl fun i _ => congrArg₂ (fun a b : EReal => a * b) rfl (congrArg (iblk m c 2 t) (funext fun a => match a with | ⟨0, _⟩ => rfl | ⟨1, _⟩ => Fin.ext ?_)))
  exact (Nat.zero_add _).symm

theorem index3 : ∀ t : Fin cfg0.N, win0_3.index t = ![(grid0.coords t 0).val, (grid0.coords t 1).val, 0] := (by decide +kernel : ∀ t : Fin grid0.N, _)

theorem arr3 (c : Dev nD) : (dats m 0 c).arrAt 3 cfg0.N = fun i : S8x8192x512.Idx => at1 m c (i 0) (i 1) (chan 0 (by decide) (i 2)) * scale := by
  refine (dats m 0 c).arrAt_eq_of_covers 3 _ (by decide +kernel) fun t hf y => ?_
  blk_simp
  rw [after0_3, out3]
  refine congrArg (fun a : EReal => a * scale) (row_eq m c t (y 1) _ (((cfg0.win 3).blk t).view.emb y 0) (((cfg0.win 3).blk t).view.emb y 1) (chan 0 (by decide) (((cfg0.win 3).blk t).view.emb y 2)) ?_ ?_ ?_)
  all_goals
    blk_simp [index3 t, chan, rowOf]
    try omega

theorem out6 (c : Dev nD) (t : Fin cfg0.N) (y : S1x512x512.Idx) : (outsAt0 m c t).2.2.2.1 y = row m c t (y 1) (chan 512 (by decide) (y 2)) := by
  unfold outsAt0
  dsimp only
  frame_out
  pointwise [k0_pay18, k0_pay12, k0_pay9]
  refine (Finset.sum_congr rfl fun i _ => congrArg₂ (fun a b : EReal => a * b) rfl (congrArg (iblk m c 2 t) (funext fun a => match a with | ⟨0, _⟩ => rfl | ⟨1, _⟩ => Fin.ext ?_)))
  rfl

theorem index6 : ∀ t : Fin cfg0.N, win0_6.index t = ![(grid0.coords t 0).val, (grid0.coords t 1).val, 0] := (by decide +kernel : ∀ t : Fin grid0.N, _)

theorem arr6 (c : Dev nD) : (dats m 0 c).arrAt 6 cfg0.N = fun i : S8x8192x512.Idx => at1 m c (i 0) (i 1) (chan 512 (by decide) (i 2)) := by
  refine (dats m 0 c).arrAt_eq_of_covers 6 _ (by decide +kernel) fun t hf y => ?_
  blk_simp
  rw [after0_6, out6]
  refine row_eq m c t (y 1) _ (((cfg0.win 6).blk t).view.emb y 0) (((cfg0.win 6).blk t).view.emb y 1) (chan 512 (by decide) (((cfg0.win 6).blk t).view.emb y 2)) ?_ ?_ ?_
  all_goals
    blk_simp [index6 t, chan, rowOf]
    try omega

theorem out8 (c : Dev nD) (t : Fin cfg0.N) (y : S1x512x512.Idx) : (outsAt0 m c t).2.2.2.2.2.1 y = row m c t (y 1) (chan 1536 (by decide) (y 2)) * scale := by
  unfold outsAt0
  dsimp only
  frame_out
  pointwise [k0_pay26, k0_pay9]
  refine congrArg (fun a : EReal => a * scale) (Finset.sum_congr rfl fun i _ => congrArg₂ (fun a b : EReal => a * b) rfl (congrArg (iblk m c 2 t) (funext fun a => match a with | ⟨0, _⟩ => rfl | ⟨1, _⟩ => Fin.ext ?_)))
  rfl

theorem index8 : ∀ t : Fin cfg0.N, win0_8.index t = ![(grid0.coords t 0).val, (grid0.coords t 1).val, 0] := (by decide +kernel : ∀ t : Fin grid0.N, _)

theorem arr8 (c : Dev nD) : (dats m 0 c).arrAt 8 cfg0.N = fun i : S8x8192x512.Idx => at1 m c (i 0) (i 1) (chan 1536 (by decide) (i 2)) * scale := by
  refine (dats m 0 c).arrAt_eq_of_covers 8 _ (by decide +kernel) fun t hf y => ?_
  blk_simp
  rw [after0_8, out8]
  refine congrArg (fun a : EReal => a * scale) (row_eq m c t (y 1) _ (((cfg0.win 8).blk t).view.emb y 0) (((cfg0.win 8).blk t).view.emb y 1) (chan 1536 (by decide) (((cfg0.win 8).blk t).view.emb y 2)) ?_ ?_ ?_)
  all_goals
    blk_simp [index8 t, chan, rowOf]
    try omega

theorem out11 (c : Dev nD) (t : Fin cfg0.N) (y : S1x512x512.Idx) : (outsAt0 m c t).2.2.2.2.2.2.2.2.1 y = row m c t (y 1) (chan 2048 (by decide) (y 2)) := by
  unfold outsAt0
  dsimp only
  frame_out
  pointwise [k0_pay2, k0_pay27, k0_pay9]
  refine (Finset.sum_congr rfl fun i _ => congrArg₂ (fun a b : EReal => a * b) rfl (congrArg (iblk m c 2 t) (funext fun a => match a with | ⟨0, _⟩ => rfl | ⟨1, _⟩ => Fin.ext ?_)))
  rfl

theorem index11 : ∀ t : Fin cfg0.N, win0_11.index t = ![(grid0.coords t 0).val, (grid0.coords t 1).val, 0] := (by decide +kernel : ∀ t : Fin grid0.N, _)

theorem arr11 (c : Dev nD) : (dats m 0 c).arrAt 11 cfg0.N = fun i : S8x8192x512.Idx => at1 m c (i 0) (i 1) (chan 2048 (by decide) (i 2)) := by
  refine (dats m 0 c).arrAt_eq_of_covers 11 _ (by decide +kernel) fun t hf y => ?_
  blk_simp
  rw [after0_11, out11]
  refine row_eq m c t (y 1) _ (((cfg0.win 11).blk t).view.emb y 0) (((cfg0.win 11).blk t).view.emb y 1) (chan 2048 (by decide) (((cfg0.win 11).blk t).view.emb y 2)) ?_ ?_ ?_
  all_goals
    blk_simp [index11 t, chan, rowOf]
    try omega

theorem out7 (c : Dev nD) (t : Fin cfg0.N) (y : S1x1x512x512.Idx) : (outsAt0 m c t).2.2.2.2.1 y = row m c t (y 3) (chan 1024 (by decide) (y 2)) := by
  unfold outsAt0
  dsimp only
  frame_out
  pointwise [k0_pay25, k0_pay19, k0_pay9]
  refine (Finset.sum_congr rfl fun i _ => congrArg₂ (fun a b : EReal => a * b) rfl (congrArg (iblk m c 2 t) (funext fun a => match a with | ⟨0, _⟩ => rfl | ⟨1, _⟩ => Fin.ext ?_)))
  rfl

theorem index7 : ∀ t : Fin cfg0.N, win0_7.index t = ![(grid0.coords t 0).val, (grid0.coords t 1).val, 0, 0] := (by decide +kernel : ∀ t : Fin grid0.N, _)

theorem arr7 (c : Dev nD) : (dats m 0 c).arrAt 7 cfg0.N = fun i : S8x16x512x512.Idx => at1 m c (i 0) (rowOf (i 1) (i 3)) (chan 1024 (by decide) (i 2)) := by
  refine (dats m 0 c).arrAt_eq_of_covers 7 _ (by decide +kernel) fun t hf y => ?_
  blk_simp
  rw [after0_7, out7]
  refine row_eq m c t (y 3) _ (((cfg0.win 7).blk t).view.emb y 0) (rowOf (((cfg0.win 7).blk t).view.emb y 1) (((cfg0.win 7).blk t).view.emb y 3)) (chan 1024 (by decide) (((cfg0.win 7).blk t).view.emb y 2)) ?_ ?_ ?_
  all_goals
    blk_simp [index7 t, chan, rowOf]
    try omega

theorem out12 (c : Dev nD) (t : Fin cfg0.N) (y : S1x1x512x512.Idx) : (outsAt0 m c t).2.2.2.2.2.2.2.2.2.1 y = row m c t (y 3) (chan 2560 (by decide) (y 2)) := by
  unfold outsAt0
  dsimp only
  frame_out
  pointwise [k0_pay5, k0_pay3, k0_pay9]
  refine (Finset.sum_congr rfl fun i _ => congrArg₂ (fun a b : EReal => a * b) rfl (congrArg (iblk m c 2 t) (funext fun a => match a with | ⟨0, _⟩ => rfl | ⟨1, _⟩ => Fin.ext ?_)))
  rfl

theorem index12 : ∀ t : Fin cfg0.N, win0_12.index t = ![(grid0.coords t 0).val, (grid0.coords t 1).val, 0, 0] := (by decide +kernel : ∀ t : Fin grid0.N, _)

theorem arr12 (c : Dev nD) : (dats m 0 c).arrAt 12 cfg0.N = fun i : S8x16x512x512.Idx => at1 m c (i 0) (rowOf (i 1) (i 3)) (chan 2560 (by decide) (i 2)) := by
  refine (dats m 0 c).arrAt_eq_of_covers 12 _ (by decide +kernel) fun t hf y => ?_
  blk_simp
  rw [after0_12, out12]
  refine row_eq m c t (y 3) _ (((cfg0.win 12).blk t).view.emb y 0) (rowOf (((cfg0.win 12).blk t).view.emb y 1) (((cfg0.win 12).blk t).view.emb y 3)) (chan 2560 (by decide) (((cfg0.win 12).blk t).view.emb y 2)) ?_ ?_ ?_
  all_goals
    blk_simp [index12 t, chan, rowOf]
    try omega

theorem out9 (c : Dev nD) (t : Fin cfg0.N) (y : S1x512x512.Idx) : (outsAt0 m c t).2.2.2.2.2.2.1 y = row m c t (y 1) (chan 2048 (by decide) (y 2)) := by
  unfold outsAt0
  dsimp only
  frame_out
  pointwise [k0_pay1, k0_pay27, k0_pay9]
  refine (Finset.sum_congr rfl fun i _ => congrArg₂ (fun a b : EReal => a * b) rfl (congrArg (iblk m c 2 t) (funext fun a => match a with | ⟨0, _⟩ => rfl | ⟨1, _⟩ => Fin.ext ?_)))
  rfl

theorem index9 : ∀ t : Fin cfg0.N, win0_9.index t = ![(grid0.coords t 0).val, 0, 0] := (by decide +kernel : ∀ t : Fin grid0.N, _)

theorem last_point : ∀ t : Fin cfg0.N, t.val % 16 = 15 → (grid0.coords t 1).val = 15 := (by decide +kernel : ∀ t : Fin grid0.N, t.val % 16 = 15 → (grid0.coords t 1).val = 15)

theorem arr9 (c : Dev nD) : (dats m 0 c).arrAt 9 cfg0.N = fun i : S8x512x512.Idx => at1 m c (i 0) (rowOf 15 (i 1)) (chan 2048 (by decide) (i 2)) := by
  refine (dats m 0 c).arrAt_eq_of_covers 9 _ (by decide +kernel) fun t hf y => ?_
  have hl := last_point t ((flush0_9 t).mp hf)
  blk_simp
  rw [after0_9, out9]
  refine row_eq m c t (y 1) _ (((cfg0.win 9).blk t).view.emb y 0) (rowOf 15 (((cfg0.win 9).blk t).view.emb y 1)) (chan 2048 (by decide) (((cfg0.win 9).blk t).view.emb y 2)) ?_ ?_ ?_
  all_goals
    blk_simp [index9 t, chan, rowOf, hl]
    try rfl

theorem out10 (c : Dev nD) (t : Fin cfg0.N) (y : S1x512x512.Idx) : (outsAt0 m c t).2.2.2.2.2.2.2.1 y = row m c t (y 1) (chan 2560 (by decide) (y 2)) := by
  unfold outsAt0
  dsimp only
  frame_out
  pointwise [k0_pay4, k0_pay3, k0_pay9]
  refine (Finset.sum_congr rfl fun i _ => congrArg₂ (fun a b : EReal => a * b) rfl (congrArg (iblk m c 2 t) (funext fun a => match a with | ⟨0, _⟩ => rfl | ⟨1, _⟩ => Fin.ext ?_)))
  rfl

theorem index10 : ∀ t : Fin cfg0.N, win0_10.index t = ![(grid0.coords t 0).val, 0, 0] := (by decide +kernel : ∀ t : Fin grid0.N, _)

theorem arr10 (c : Dev nD) : (dats m 0 c).arrAt 10 cfg0.N = fun i : S8x512x512.Idx => at1 m c (i 0) (rowOf 15 (i 1)) (chan 2560 (by decide) (i 2)) := by
  refine (dats m 0 c).arrAt_eq_of_covers 10 _ (by decide +kernel) fun t hf y => ?_
  have hl := last_point t ((flush0_10 t).mp hf)
  blk_simp
  rw [after0_10, out10]
  refine row_eq m c t (y 1) _ (((cfg0.win 10).blk t).view.emb y 0) (rowOf 15 (((cfg0.win 10).blk t).view.emb y 1)) (chan 2560 (by decide) (((cfg0.win 10).blk t).view.emb y 2)) ?_ ?_ ?_
  all_goals
    blk_simp [index10 t, chan, rowOf, hl]
    try rfl

theorem out13 (c : Dev nD) (t : Fin cfg0.N) (y : S512x512.Idx) : (outsAt0 m c t).2.2.2.2.2.2.2.2.2.2 y = row m c t (y 0) (chan 3072 (by decide) (y 1)) := by
  unfold outsAt0
  dsimp only
  frame_out
  pointwise [k0_pay6, k0_pay9]
  refine (Finset.sum_congr rfl fun i _ => congrArg₂ (fun a b : EReal => a * b) rfl (congrArg (iblk m c 2 t) (funext fun a => match a with | ⟨0, _⟩ => rfl | ⟨1, _⟩ => Fin.ext ?_)))
  rfl

theorem index13 : ∀ t : Fin cfg0.N, win0_13.index t = ![(grid0.coords t 1).val, (grid0.coords t 0).val] := (by decide +kernel : ∀ t : Fin grid0.N, _)

theorem arr13 (c : Dev nD) : (dats m 0 c).arrAt 13 cfg0.N = fun i : S8192x4096.Idx => at1 m c ⟨(i 1).val / 512, by have h : (i 1).val < 4096 := (i 1).isLt; omega⟩ (i 0) (chan 3072 (by decide) ⟨(i 1).val % 512, by omega⟩) := by
  refine (dats m 0 c).arrAt_eq_of_covers 13 _ (by decide +kernel) fun t hf y => ?_
  have hy : (y 1).val < 512 := (y 1).isLt
  blk_simp
  rw [after0_13, out13]
  refine row_eq m c t (y 0) _ _ _ _ ?_ ?_ ?_
  · blk_simp [index13 t]
    show ((grid0.coords t 0).val * 512 + (y 1).val) / 512 = (grid0.coords t 0).val
    omega
  · blk_simp [index13 t]
  · blk_simp [index13 t, chan]
    show 3072 + ((grid0.coords t 0).val * 512 + (y 1).val) % 512 = 3072 + (y 1).val
    omega

/-- Head 0 of the block, stored to window 4. -/
theorem head4_0 (c : Dev nD) (t : Fin cfg0.N) (z : S512x1x128.Idx) :
    k0_pay13 (k0_pay9 (iblk m c 0 t) (iblk m c 1 t)) (View.ld (iblk m c 2 t) (Rect.unit ![0, 512] ![1024, 512] inb_S1024x3584_S1024x512_0_512)) z = row m c t (z 0) (chan 512 (by decide) (head 0 (z 2))) := by
  idx_vars z
  pointwise [k0_pay13, k0_pay12, k0_pay9]
  refine Finset.sum_congr rfl fun i _ => congrArg₂ (fun a b : EReal => a * b) rfl (congrArg (iblk m c 2 t) (funext fun a => match a with | ⟨0, _⟩ => rfl | ⟨1, _⟩ => Fin.ext ?_))
  show 512 + z2.val = 512 + (0 * 128 + z2.val)
  omega

/-- Head 1 of the block, stored to window 4. -/
theorem head4_1 (c : Dev nD) (t : Fin cfg0.N) (z : S512x1x128.Idx) :
    k0_pay14 (k0_pay9 (iblk m c 0 t) (iblk m c 1 t)) (View.ld (iblk m c 2 t) (Rect.unit ![0, 512] ![1024, 512] inb_S1024x3584_S1024x512_0_512)) z = row m c t (z 0) (chan 512 (by decide) (head 1 (z 2))) := by
  idx_vars z
  pointwise [k0_pay14, k0_pay12, k0_pay9]
  refine Finset.sum_congr rfl fun i _ => congrArg₂ (fun a b : EReal => a * b) rfl (congrArg (iblk m c 2 t) (funext fun a => match a with | ⟨0, _⟩ => rfl | ⟨1, _⟩ => Fin.ext ?_))
  show 512 + (128 + z2.val) = 512 + (1 * 128 + z2.val)
  omega

/-- Head 2 of the block, stored to window 4. -/
theorem head4_2 (c : Dev nD) (t : Fin cfg0.N) (z : S512x1x128.Idx) :
    k0_pay15 (k0_pay9 (iblk m c 0 t) (iblk m c 1 t)) (View.ld (iblk m c 2 t) (Rect.unit ![0, 512] ![1024, 512] inb_S1024x3584_S1024x512_0_512)) z = row m c t (z 0) (chan 512 (by decide) (head 2 (z 2))) := by
  idx_vars z
  pointwise [k0_pay15, k0_pay12, k0_pay9]
  refine Finset.sum_congr rfl fun i _ => congrArg₂ (fun a b : EReal => a * b) rfl (congrArg (iblk m c 2 t) (funext fun a => match a with | ⟨0, _⟩ => rfl | ⟨1, _⟩ => Fin.ext ?_))
  show 512 + (256 + z2.val) = 512 + (2 * 128 + z2.val)
  omega

/-- Head 3 of the block, stored to window 4. -/
theorem head4_3 (c : Dev nD) (t : Fin cfg0.N) (z : S512x1x128.Idx) :
    k0_pay17 (k0_pay16 (k0_pay9 (iblk m c 0 t) (iblk m c 1 t)) (View.ld (iblk m c 2 t) (Rect.unit ![0, 512] ![1024, 512] inb_S1024x3584_S1024x512_0_512))) z = row m c t (z 0) (chan 512 (by decide) (head 3 (z 2))) := by
  idx_vars z
  pointwise [k0_pay17, k0_pay16, k0_pay12, k0_pay9]
  refine Finset.sum_congr rfl fun i _ => congrArg₂ (fun a b : EReal => a * b) rfl (congrArg (iblk m c 2 t) (funext fun a => match a with | ⟨0, _⟩ => rfl | ⟨1, _⟩ => Fin.ext ?_))
  show 512 + (384 + z2.val) = 512 + (3 * 128 + z2.val)
  omega

theorem out4 (c : Dev nD) (t : Fin cfg0.N) (y : S2x1x512x4x128.Idx) : (outsAt0 m c t).2.1 y = if (y 0).val < 1 then row m c t (y 2) (chan 512 (by decide) (head (y 3) (y 4))) else 0 := by
  unfold outsAt0
  dsimp only
  frame_out
  refine View.canon_eq_of_allAt _ y _ (View.cover_of_tiledBy _ ![1, 1, 512, 1, 128] (by sl_kernel_rfl) y) ?_
  refine View.allAt_cons _ _ _ (fun x hx => ?_) ?_
  · have h (a : Fin 5) := congrArg (fun z : S2x1x512x4x128.Idx => (z a).val) hx
    refine (payAlong_two _ ![1, 512, 4, 128] (by decide) (by decide) ![1, 1, 512, 4, 128] (by decide) (by decide) _ _ x (fun i => match i with | ⟨0, _⟩ => x 2 | ⟨1, _⟩ => x 3 | ⟨2, _⟩ => x 4) (fun i => match i with | ⟨0, _⟩ => rfl | ⟨1, _⟩ => rfl | ⟨2, _⟩ => rfl)).trans ((head4_3 m c t _).trans ?_)
    have e0 : 0 + 0 + 1 * (x 0).val = (y 0).val := h 0
    have e2 : 0 + 0 + 1 * (x 2).val = (y 2).val := h 2
    have e3 : 0 + 3 + 1 * (x 3).val = (y 3).val := h 3
    have e4 : 0 + 0 + 1 * (x 4).val = (y 4).val := h 4
    have l0 : (x 0).val < 1 := (x 0).isLt
    have l3 : (x 3).val < 1 := (x 3).isLt
    rw [if_pos (by omega)]
    refine congrArg₂ (fun r n => row m c t r n) (Fin.ext ?_) (Fin.ext ?_)
    · show (x 2).val = (y 2).val
      omega
    · show 512 + (3 * 128 + (x 4).val) = 512 + ((y 3).val * 128 + (y 4).val)
      omega
  refine View.allAt_cons _ _ _ (fun x hx => ?_) ?_
  · have h (a : Fin 5) := congrArg (fun z : S2x1x512x4x128.Idx => (z a).val) hx
    refine (payAlong_two _ ![1, 512, 4, 128] (by decide) (by decide) ![1, 1, 512, 4, 128] (by decide) (by decide) _ _ x (fun i => match i with | ⟨0, _⟩ => x 2 | ⟨1, _⟩ => x 3 | ⟨2, _⟩ => x 4) (fun i => match i with | ⟨0, _⟩ => rfl | ⟨1, _⟩ => rfl | ⟨2, _⟩ => rfl)).trans ((head4_2 m c t _).trans ?_)
    have e0 : 0 + 0 + 1 * (x 0).val = (y 0).val := h 0
    have e2 : 0 + 0 + 1 * (x 2).val = (y 2).val := h 2
    have e3 : 0 + 2 + 1 * (x 3).val = (y 3).val := h 3
    have e4 : 0 + 0 + 1 * (x 4).val = (y 4).val := h 4
    have l0 : (x 0).val < 1 := (x 0).isLt
    have l3 : (x 3).val < 1 := (x 3).isLt
    rw [if_pos (by omega)]
    refine congrArg₂ (fun r n => row m c t r n) (Fin.ext ?_) (Fin.ext ?_)
    · show (x 2).val = (y 2).val
      omega
    · show 512 + (2 * 128 + (x 4).val) = 512 + ((y 3).val * 128 + (y 4).val)
      omega
  refine View.allAt_cons _ _ _ (fun x hx => ?_) ?_
  · have h (a : Fin 5) := congrArg (fun z : S2x1x512x4x128.Idx => (z a).val) hx
    refine (payAlong_two _ ![1, 512, 4, 128] (by decide) (by decide) ![1, 1, 512, 4, 128] (by decide) (by decide) _ _ x (fun i => match i with | ⟨0, _⟩ => x 2 | ⟨1, _⟩ => x 3 | ⟨2, _⟩ => x 4) (fun i => match i with | ⟨0, _⟩ => rfl | ⟨1, _⟩ => rfl | ⟨2, _⟩ => rfl)).trans ((head4_1 m c t _).trans ?_)
    have e0 : 0 + 0 + 1 * (x 0).val = (y 0).val := h 0
    have e2 : 0 + 0 + 1 * (x 2).val = (y 2).val := h 2
    have e3 : 0 + 1 + 1 * (x 3).val = (y 3).val := h 3
    have e4 : 0 + 0 + 1 * (x 4).val = (y 4).val := h 4
    have l0 : (x 0).val < 1 := (x 0).isLt
    have l3 : (x 3).val < 1 := (x 3).isLt
    rw [if_pos (by omega)]
    refine congrArg₂ (fun r n => row m c t r n) (Fin.ext ?_) (Fin.ext ?_)
    · show (x 2).val = (y 2).val
      omega
    · show 512 + (1 * 128 + (x 4).val) = 512 + ((y 3).val * 128 + (y 4).val)
      omega
  refine View.allAt_cons _ _ _ (fun x hx => ?_) ?_
  · have h (a : Fin 5) := congrArg (fun z : S2x1x512x4x128.Idx => (z a).val) hx
    refine (payAlong_two _ ![1, 512, 4, 128] (by decide) (by decide) ![1, 1, 512, 4, 128] (by decide) (by decide) _ _ x (fun i => match i with | ⟨0, _⟩ => x 2 | ⟨1, _⟩ => x 3 | ⟨2, _⟩ => x 4) (fun i => match i with | ⟨0, _⟩ => rfl | ⟨1, _⟩ => rfl | ⟨2, _⟩ => rfl)).trans ((head4_0 m c t _).trans ?_)
    have e0 : 0 + 0 + 1 * (x 0).val = (y 0).val := h 0
    have e2 : 0 + 0 + 1 * (x 2).val = (y 2).val := h 2
    have e3 : 0 + 0 + 1 * (x 3).val = (y 3).val := h 3
    have e4 : 0 + 0 + 1 * (x 4).val = (y 4).val := h 4
    have l0 : (x 0).val < 1 := (x 0).isLt
    have l3 : (x 3).val < 1 := (x 3).isLt
    rw [if_pos (by omega)]
    refine congrArg₂ (fun r n => row m c t r n) (Fin.ext ?_) (Fin.ext ?_)
    · show (x 2).val = (y 2).val
      omega
    · show 512 + (0 * 128 + (x 4).val) = 512 + ((y 3).val * 128 + (y 4).val)
      omega
  refine View.allAt_cons _ _ _ (fun x hx => ?_) (View.allAt_nil _ _)
  have h : 1 + 1 * (x 0).val = (y 0).val := congrArg (fun z : S2x1x512x4x128.Idx => (z 0).val) hx
  rw [if_neg (by omega)]
  pointwise [k0_pay7]

theorem index4 : ∀ t : Fin cfg0.N, win0_4.index t = ![0, (grid0.coords t 0).val, (grid0.coords t 1).val, 0, 0] := (by decide +kernel : ∀ t : Fin grid0.N, _)

theorem arr4 (c : Dev nD) : (dats m 0 c).arrAt 4 cfg0.N = fun i : S2x8x8192x4x128.Idx => if (i 0).val < 1 then at1 m c (i 1) (i 2) (chan 512 (by decide) (head (i 3) (i 4))) else 0 := by
  refine (dats m 0 c).arrAt_eq_of_covers 4 _ (by decide +kernel) fun t hf y => ?_
  blk_simp
  rw [after0_4, out4]
  refine if_congr ?_ (row_eq m c t (y 2) _ (((cfg0.win 4).blk t).view.emb y 1) (((cfg0.win 4).blk t).view.emb y 2) (chan 512 (by decide) (head (((cfg0.win 4).blk t).view.emb y 3) (((cfg0.win 4).blk t).view.emb y 4))) ?_ ?_ ?_) rfl
  all_goals
    blk_simp [index4 t, chan, head]
    try omega

/-- Head 0 of the block, stored to window 5. -/
theorem head5_0 (c : Dev nD) (t : Fin cfg0.N) (z : S512x1x128.Idx) :
    k0_pay20 (k0_pay9 (iblk m c 0 t) (iblk m c 1 t)) (View.ld (iblk m c 2 t) (Rect.unit ![0, 1024] ![1024, 512] inb_S1024x3584_S1024x512_0_1024)) z = row m c t (z 0) (chan 1024 (by decide) (head 0 (z 2))) := by
  idx_vars z
  pointwise [k0_pay20, k0_pay19, k0_pay9]
  refine Finset.sum_congr rfl fun i _ => congrArg₂ (fun a b : EReal => a * b) rfl (congrArg (iblk m c 2 t) (funext fun a => match a with | ⟨0, _⟩ => rfl | ⟨1, _⟩ => Fin.ext ?_))
  show 1024 + z2.val = 1024 + (0 * 128 + z2.val)
  omega

/-- Head 1 of the block, stored to window 5. -/
theorem head5_1 (c : Dev nD) (t : Fin cfg0.N) (z : S512x1x128.Idx) :
    k0_pay21 (k0_pay9 (iblk m c 0 t) (iblk m c 1 t)) (View.ld (iblk m c 2 t) (Rect.unit ![0, 1024] ![1024, 512] inb_S1024x3584_S1024x512_0_1024)) z = row m c t (z 0) (chan 1024 (by decide) (head 1 (z 2))) := by
  idx_vars z
  pointwise [k0_pay21, k0_pay19, k0_pay9]
  refine Finset.sum_congr rfl fun i _ => congrArg₂ (fun a b : EReal => a * b) rfl (congrArg (iblk m c 2 t) (funext fun a => match a with | ⟨0, _⟩ => rfl | ⟨1, _⟩ => Fin.ext ?_))
  show 1024 + (128 + z2.val) = 1024 + (1 * 128 + z2.val)
  omega

/-- Head 2 of the block, stored to window 5. -/
theorem head5_2 (c : Dev nD) (t : Fin cfg0.N) (z : S512x1x128.Idx) :
    k0_pay23 (k0_pay22 (k0_pay9 (iblk m c 0 t) (iblk m c 1 t)) (View.ld (iblk m c 2 t) (Rect.unit ![0, 1024] ![1024, 512] inb_S1024x3584_S1024x512_0_1024))) z = row m c t (z 0) (chan 1024 (by decide) (head 2 (z 2))) := by
  idx_vars z
  pointwise [k0_pay23, k0_pay22, k0_pay19, k0_pay9]
  refine Finset.sum_congr rfl fun i _ => congrArg₂ (fun a b : EReal => a * b) rfl (congrArg (iblk m c 2 t) (funext fun a => match a with | ⟨0, _⟩ => rfl | ⟨1, _⟩ => Fin.ext ?_))
  show 1024 + (256 + z2.val) = 1024 + (2 * 128 + z2.val)
  omega

/-- Head 3 of the block, stored to window 5. -/
theorem head5_3 (c : Dev nD) (t : Fin cfg0.N) (z : S512x1x128.Idx) :
    k0_pay24 (k0_pay19 (k0_pay9 (iblk m c 0 t) (iblk m c 1 t)) (View.ld (iblk m c 2 t) (Rect.unit ![0, 1024] ![1024, 512] inb_S1024x3584_S1024x512_0_1024))) z = row m c t (z 0) (chan 1024 (by decide) (head 3 (z 2))) := by
  idx_vars z
  pointwise [k0_pay24, k0_pay19, k0_pay9]
  refine Finset.sum_congr rfl fun i _ => congrArg₂ (fun a b : EReal => a * b) rfl (congrArg (iblk m c 2 t) (funext fun a => match a with | ⟨0, _⟩ => rfl | ⟨1, _⟩ => Fin.ext ?_))
  show 1024 + (384 + z2.val) = 1024 + (3 * 128 + z2.val)
  omega

theorem out5 (c : Dev nD) (t : Fin cfg0.N) (y : S2x1x512x4x128.Idx) : (outsAt0 m c t).2.2.1 y = if (y 0).val < 1 then row m c t (y 2) (chan 1024 (by decide) (head (y 3) (y 4))) else 0 := by
  unfold outsAt0
  dsimp only
  frame_out
  refine View.canon_eq_of_allAt _ y _ (View.cover_of_tiledBy _ ![1, 1, 512, 1, 128] (by sl_kernel_rfl) y) ?_
  refine View.allAt_cons _ _ _ (fun x hx => ?_) ?_
  · have h (a : Fin 5) := congrArg (fun z : S2x1x512x4x128.Idx => (z a).val) hx
    refine (payAlong_two _ ![1, 512, 4, 128] (by decide) (by decide) ![1, 1, 512, 4, 128] (by decide) (by decide) _ _ x (fun i => match i with | ⟨0, _⟩ => x 2 | ⟨1, _⟩ => x 3 | ⟨2, _⟩ => x 4) (fun i => match i with | ⟨0, _⟩ => rfl | ⟨1, _⟩ => rfl | ⟨2, _⟩ => rfl)).trans ((head5_3 m c t _).trans ?_)
    have e0 : 0 + 0 + 1 * (x 0).val = (y 0).val := h 0
    have e2 : 0 + 0 + 1 * (x 2).val = (y 2).val := h 2
    have e3 : 0 + 3 + 1 * (x 3).val = (y 3).val := h 3
    have e4 : 0 + 0 + 1 * (x 4).val = (y 4).val := h 4
    have l0 : (x 0).val < 1 := (x 0).isLt
    have l3 : (x 3).val < 1 := (x 3).isLt
    rw [if_pos (by omega)]
    refine congrArg₂ (fun r n => row m c t r n) (Fin.ext ?_) (Fin.ext ?_)
    · show (x 2).val = (y 2).val
      omega
    · show 1024 + (3 * 128 + (x 4).val) = 1024 + ((y 3).val * 128 + (y 4).val)
      omega
  refine View.allAt_cons _ _ _ (fun x hx => ?_) ?_
  · have h (a : Fin 5) := congrArg (fun z : S2x1x512x4x128.Idx => (z a).val) hx
    refine (payAlong_two _ ![1, 512, 4, 128] (by decide) (by decide) ![1, 1, 512, 4, 128] (by decide) (by decide) _ _ x (fun i => match i with | ⟨0, _⟩ => x 2 | ⟨1, _⟩ => x 3 | ⟨2, _⟩ => x 4) (fun i => match i with | ⟨0, _⟩ => rfl | ⟨1, _⟩ => rfl | ⟨2, _⟩ => rfl)).trans ((head5_2 m c t _).trans ?_)
    have e0 : 0 + 0 + 1 * (x 0).val = (y 0).val := h 0
    have e2 : 0 + 0 + 1 * (x 2).val = (y 2).val := h 2
    have e3 : 0 + 2 + 1 * (x 3).val = (y 3).val := h 3
    have e4 : 0 + 0 + 1 * (x 4).val = (y 4).val := h 4
    have l0 : (x 0).val < 1 := (x 0).isLt
    have l3 : (x 3).val < 1 := (x 3).isLt
    rw [if_pos (by omega)]
    refine congrArg₂ (fun r n => row m c t r n) (Fin.ext ?_) (Fin.ext ?_)
    · show (x 2).val = (y 2).val
      omega
    · show 1024 + (2 * 128 + (x 4).val) = 1024 + ((y 3).val * 128 + (y 4).val)
      omega
  refine View.allAt_cons _ _ _ (fun x hx => ?_) ?_
  · have h (a : Fin 5) := congrArg (fun z : S2x1x512x4x128.Idx => (z a).val) hx
    refine (payAlong_two _ ![1, 512, 4, 128] (by decide) (by decide) ![1, 1, 512, 4, 128] (by decide) (by decide) _ _ x (fun i => match i with | ⟨0, _⟩ => x 2 | ⟨1, _⟩ => x 3 | ⟨2, _⟩ => x 4) (fun i => match i with | ⟨0, _⟩ => rfl | ⟨1, _⟩ => rfl | ⟨2, _⟩ => rfl)).trans ((head5_1 m c t _).trans ?_)
    have e0 : 0 + 0 + 1 * (x 0).val = (y 0).val := h 0
    have e2 : 0 + 0 + 1 * (x 2).val = (y 2).val := h 2
    have e3 : 0 + 1 + 1 * (x 3).val = (y 3).val := h 3
    have e4 : 0 + 0 + 1 * (x 4).val = (y 4).val := h 4
    have l0 : (x 0).val < 1 := (x 0).isLt
    have l3 : (x 3).val < 1 := (x 3).isLt
    rw [if_pos (by omega)]
    refine congrArg₂ (fun r n => row m c t r n) (Fin.ext ?_) (Fin.ext ?_)
    · show (x 2).val = (y 2).val
      omega
    · show 1024 + (1 * 128 + (x 4).val) = 1024 + ((y 3).val * 128 + (y 4).val)
      omega
  refine View.allAt_cons _ _ _ (fun x hx => ?_) ?_
  · have h (a : Fin 5) := congrArg (fun z : S2x1x512x4x128.Idx => (z a).val) hx
    refine (payAlong_two _ ![1, 512, 4, 128] (by decide) (by decide) ![1, 1, 512, 4, 128] (by decide) (by decide) _ _ x (fun i => match i with | ⟨0, _⟩ => x 2 | ⟨1, _⟩ => x 3 | ⟨2, _⟩ => x 4) (fun i => match i with | ⟨0, _⟩ => rfl | ⟨1, _⟩ => rfl | ⟨2, _⟩ => rfl)).trans ((head5_0 m c t _).trans ?_)
    have e0 : 0 + 0 + 1 * (x 0).val = (y 0).val := h 0
    have e2 : 0 + 0 + 1 * (x 2).val = (y 2).val := h 2
    have e3 : 0 + 0 + 1 * (x 3).val = (y 3).val := h 3
    have e4 : 0 + 0 + 1 * (x 4).val = (y 4).val := h 4
    have l0 : (x 0).val < 1 := (x 0).isLt
    have l3 : (x 3).val < 1 := (x 3).isLt
    rw [if_pos (by omega)]
    refine congrArg₂ (fun r n => row m c t r n) (Fin.ext ?_) (Fin.ext ?_)
    · show (x 2).val = (y 2).val
      omega
    · show 1024 + (0 * 128 + (x 4).val) = 1024 + ((y 3).val * 128 + (y 4).val)
      omega
  refine View.allAt_cons _ _ _ (fun x hx => ?_) (View.allAt_nil _ _)
  have h : 1 + 1 * (x 0).val = (y 0).val := congrArg (fun z : S2x1x512x4x128.Idx => (z 0).val) hx
  rw [if_neg (by omega)]
  pointwise [k0_pay8]

theorem index5 : ∀ t : Fin cfg0.N, win0_5.index t = ![0, (grid0.coords t 0).val, (grid0.coords t 1).val, 0, 0] := (by decide +kernel : ∀ t : Fin grid0.N, _)

theorem arr5 (c : Dev nD) : (dats m 0 c).arrAt 5 cfg0.N = fun i : S2x8x8192x4x128.Idx => if (i 0).val < 1 then at1 m c (i 1) (i 2) (chan 1024 (by decide) (head (i 3) (i 4))) else 0 := by
  refine (dats m 0 c).arrAt_eq_of_covers 5 _ (by decide +kernel) fun t hf y => ?_
  blk_simp
  rw [after0_5, out5]
  refine if_congr ?_ (row_eq m c t (y 2) _ (((cfg0.win 5).blk t).view.emb y 1) (((cfg0.win 5).blk t).view.emb y 2) (chan 1024 (by decide) (head (((cfg0.win 5).blk t).view.emb y 3) (((cfg0.win 5).blk t).view.emb y 4))) ?_ ?_ ?_) rfl
  all_goals
    blk_simp [index5 t, chan, head]
    try omega

end Kernel

end Cert.Ffw.Proj

end
-- ==== Proof.ProjNextValue.lean ====
/- The input projection of the second layer: it takes the caches that the first layer's projection left, writes its own keys and
   values into their second slot and leaves the first slot as it was. The other nine output arrays are the first layer's pieces. -/
module

public import proofs.«01_k».proof.Proof.ProjValue
public import proofs.«01_k».proof.Proof.Gen.ProjNextIdeal.Value
public import proofs.«01_k».proof.Proof.Gen.ProjNextRefIdeal.Read
public import Idealize.ShloMosaic.Lib.Pipeline.ValueKit

@[expose] public section

set_option maxRecDepth 16384

noncomputable section

namespace Cert.Ffw.ProjNext

open Idealize.ShloMosaic Idealize.ShloMosaic.TcCoe Idealize.SL.Sem Cert.Ffw
open Cert.Ffw.Proj (proj chan head scale rowOf)

section Reference

open Cert.ProjNextRefIdeal Cert.ProjNextRefIdeal.Gen Cert.ProjNextRefIdeal.Read

variable (x0 : FVec Ideal S8x8192x1024 .f32) (x1 : FVec Ideal S1024 .f32) (x2 : FVec Ideal S1024x6656 .f32)

/-- Channel `n` of row `(b, s)`. -/
abbrev at0 (b : Fin 8) (s : Fin 8192) (n : Fin 6656) : EReal := proj (fun k => x0 (ix3 b s k)) (fun k => x1 (ix1 k)) (fun i n => x2 (ix2 i n)) n

theorem h_at (j : S8x8192x1024.Idx) : val_main_v12 (F := Ideal) x0 x1 j = normed (fun k => x0 (ix3 (j 0) (j 1) k)) (fun k => x1 (ix1 k)) (j 2) := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  idx_vars j
  rfl

theorem dot_at (j : S8x8192x6656.Idx) : val_main_v13 (F := Ideal) x0 x1 x2 j = at0 x0 x1 x2 (j 0) (j 1) (j 2) := by
  rw [val_main_v13_apply]
  unfold at0 proj
  refine Finset.sum_congr rfl fun i _ => ?_
  rw [h_at]
  exact congrArg₂ (fun a b : EReal => a * b) rfl (congrArg x2 (funext fun a => match a with | ⟨0, _⟩ => rfl | ⟨1, _⟩ => rfl))

theorem v14_at (j : S8x8192x512.Idx) : val_main_v14 (F := Ideal) x0 x1 x2 j = at0 x0 x1 x2 (j 0) (j 1) (chan 0 (by decide) (j 2)) := by
  rw [val_main_v14_apply, dot_at]
  exact congrArg (at0 x0 x1 x2 (j 0) (j 1)) (Fin.ext (Nat.zero_add _).symm)

theorem v15_at (j : S8x8192x512.Idx) : val_main_v15 (F := Ideal) x0 x1 x2 j = at0 x0 x1 x2 (j 0) (j 1) (chan 512 (by decide) (j 2)) := by
  rw [val_main_v15_apply, dot_at]
  rfl

theorem v16_at (j : S8x8192x512.Idx) : val_main_v16 (F := Ideal) x0 x1 x2 j = at0 x0 x1 x2 (j 0) (j 1) (chan 1024 (by decide) (j 2)) := by
  rw [val_main_v16_apply, dot_at]
  rfl

theorem v17_at (j : S8x8192x512.Idx) : val_main_v17 (F := Ideal) x0 x1 x2 j = at0 x0 x1 x2 (j 0) (j 1) (chan 1536 (by decide) (j 2)) := by
  rw [val_main_v17_apply, dot_at]
  rfl

theorem v18_at (j : S8x8192x512.Idx) : val_main_v18 (F := Ideal) x0 x1 x2 j = at0 x0 x1 x2 (j 0) (j 1) (chan 2048 (by decide) (j 2)) := by
  rw [val_main_v18_apply, dot_at]
  rfl

theorem v19_at (j : S8x8192x512.Idx) : val_main_v19 (F := Ideal) x0 x1 x2 j = at0 x0 x1 x2 (j 0) (j 1) (chan 2560 (by decide) (j 2)) := by
  rw [val_main_v19_apply, dot_at]
  rfl

theorem v20_at (j : S8x8192x512.Idx) : val_main_v20 (F := Ideal) x0 x1 x2 j = at0 x0 x1 x2 (j 0) (j 1) (chan 3072 (by decide) (j 2)) := by
  rw [val_main_v20_apply, dot_at]
  rfl

/-- The first attention's queries. -/
theorem v23_at (j : S8x8192x512.Idx) : val_main_v23 (F := Ideal) x0 x1 x2 j = at0 x0 x1 x2 (j 0) (j 1) (chan 0 (by decide) (j 2)) * scale := by
  rw [val_main_v23_apply, val_main_v22_apply, v14_at, val_main_v21_apply, val_main_cst_2_apply]
  rfl

/-- The second attention's queries. -/
theorem v42_at (j : S8x8192x512.Idx) : val_main_v42 (F := Ideal) x0 x1 x2 j = at0 x0 x1 x2 (j 0) (j 1) (chan 1536 (by decide) (j 2)) * scale := by
  rw [val_main_v42_apply, val_main_v41_apply, v17_at, val_main_v40_apply, val_main_cst_3_apply]
  rfl

/-- The first attention's keys. -/
theorem v36_at (j : S8x8192x512.Idx) : val_main_v36 (F := Ideal) x0 x1 x2 j = at0 x0 x1 x2 (j 0) (j 1) (chan 512 (by decide) (j 2)) := by
  rw [val_main_v36_apply, v15_at]
  rfl

/-- The second attention's keys. -/
theorem v45_at (j : S8x8192x512.Idx) : val_main_v45 (F := Ideal) x0 x1 x2 j = at0 x0 x1 x2 (j 0) (j 1) (chan 2048 (by decide) (j 2)) := by
  rw [val_main_v45_apply, v18_at]
  rfl

theorem v26_at (b : Fin 8) (s : Fin 8192) (a : Fin 4) (e : Fin 128) : val_main_v26 (F := Ideal) x0 x1 x2 (ix4 b s a e) = at0 x0 x1 x2 b s (chan 512 (by decide) (head a e)) := by
  refine (val_main_v26_apply x0 x1 x2 _).trans (Eq.trans (congrArg (val_main_v15 (F := Ideal) x0 x1 x2) (show idx_main_v26 (ix4 b s a e) = ix3 b s (head a e) from funext fun q => match q with | ⟨0, _⟩ => Fin.ext ?_ | ⟨1, _⟩ => Fin.ext ?_ | ⟨2, _⟩ => Fin.ext ?_)) (v15_at x0 x1 x2 _))
  · show (((b.val * 8192 + s.val) * 4 + a.val) * 128 + e.val) / 4194304 = b.val
    omega
  · show (((b.val * 8192 + s.val) * 4 + a.val) * 128 + e.val) / 512 % 8192 = s.val
    omega
  · show (((b.val * 8192 + s.val) * 4 + a.val) * 128 + e.val) % 512 = a.val * 128 + e.val
    omega

/-- The cache of the keys: the first layer's slot as it was, and this layer's. -/
theorem v29_at (x3 : FVec Ideal S2x8x8192x4x128 .f32) (j : S2x8x8192x4x128.Idx) :
    val_main_v29 (F := Ideal) x0 x1 x2 x3 j = if 1 ≤ (j 0).val then at0 x0 x1 x2 (j 1) (j 2) (chan 512 (by decide) (head (j 3) (j 4))) else x3 j := by
  have old : ∀ (b : Fin 8) (s : Fin 8192) (a : Fin 4) (e : Fin 128), val_main_v25 (F := Ideal) x3 (ix4 b s a e) = x3 (ix5 0 b s a e) := by
    intro b s a e
    rw [val_main_v25_apply, val_main_v24_apply]
    refine congrArg x3 (funext fun q => match q with | ⟨0, _⟩ => Fin.ext ?_ | ⟨1, _⟩ => Fin.ext ?_ | ⟨2, _⟩ => Fin.ext ?_ | ⟨3, _⟩ => Fin.ext ?_ | ⟨4, _⟩ => Fin.ext ?_)
    · rfl
    · show (((b.val * 8192 + s.val) * 4 + a.val) * 128 + e.val) / 4194304 % 8 = b.val
      omega
    · show (((b.val * 8192 + s.val) * 4 + a.val) * 128 + e.val) / 512 % 8192 = s.val
      omega
    · show (((b.val * 8192 + s.val) * 4 + a.val) * 128 + e.val) / 128 % 4 = a.val
      omega
    · show (((b.val * 8192 + s.val) * 4 + a.val) * 128 + e.val) % 128 = e.val
      omega
  have h0 : (j 0).val < 2 := (j 0).isLt
  pointwise [val_main_v29, val_main_v28, val_main_v27]
  by_cases h : (j 0).val < 1
  · rw [dif_pos h, if_neg (by omega)]
    refine (old (j 1) (j 2) (j 3) (j 4)).trans ?_
    exact congrArg x3 (funext fun q => match q with | ⟨0, _⟩ => Fin.ext (by show 0 = (j 0).val; omega) | ⟨1, _⟩ => rfl | ⟨2, _⟩ => rfl | ⟨3, _⟩ => rfl | ⟨4, _⟩ => rfl)
  · rw [dif_neg h, if_pos (by omega)]
    exact v26_at x0 x1 x2 (j 1) (j 2) (j 3) (j 4)

theorem v32_at (b : Fin 8) (s : Fin 8192) (a : Fin 4) (e : Fin 128) : val_main_v32 (F := Ideal) x0 x1 x2 (ix4 b s a e) = at0 x0 x1 x2 b s (chan 1024 (by decide) (head a e)) := by
  refine (val_main_v32_apply x0 x1 x2 _).trans (Eq.trans (congrArg (val_main_v16 (F := Ideal) x0 x1 x2) (show idx_main_v32 (ix4 b s a e) = ix3 b s (head a e) from funext fun q => match q with | ⟨0, _⟩ => Fin.ext ?_ | ⟨1, _⟩ => Fin.ext ?_ | ⟨2, _⟩ => Fin.ext ?_)) (v16_at x0 x1 x2 _))
  · show (((b.val * 8192 + s.val) * 4 + a.val) * 128 + e.val) / 4194304 = b.val
    omega
  · show (((b.val * 8192 + s.val) * 4 + a.val) * 128 + e.val) / 512 % 8192 = s.val
    omega
  · show (((b.val * 8192 + s.val) * 4 + a.val) * 128 + e.val) % 512 = a.val * 128 + e.val
    omega

/-- The cache of the values: the first layer's slot as it was, and this layer's. -/
theorem v35_at (x4 : FVec Ideal S2x8x8192x4x128 .f32) (j : S2x8x8192x4x128.Idx) :
    val_main_v35 (F := Ideal) x0 x1 x2 x4 j = if 1 ≤ (j 0).val then at0 x0 x1 x2 (j 1) (j 2) (chan 1024 (by decide) (head (j 3) (j 4))) else x4 j := by
  have old : ∀ (b : Fin 8) (s : Fin 8192) (a : Fin 4) (e : Fin 128), val_main_v31 (F := Ideal) x4 (ix4 b s a e) = x4 (ix5 0 b s a e) := by
    intro b s a e
    rw [val_main_v31_apply, val_main_v30_apply]
    refine congrArg x4 (funext fun q => match q with | ⟨0, _⟩ => Fin.ext ?_ | ⟨1, _⟩ => Fin.ext ?_ | ⟨2, _⟩ => Fin.ext ?_ | ⟨3, _⟩ => Fin.ext ?_ | ⟨4, _⟩ => Fin.ext ?_)
    · rfl
    · show (((b.val * 8192 + s.val) * 4 + a.val) * 128 + e.val) / 4194304 % 8 = b.val
      omega
    · show (((b.val * 8192 + s.val) * 4 + a.val) * 128 + e.val) / 512 % 8192 = s.val
      omega
    · show (((b.val * 8192 + s.val) * 4 + a.val) * 128 + e.val) / 128 % 4 = a.val
      omega
    · show (((b.val * 8192 + s.val) * 4 + a.val) * 128 + e.val) % 128 = e.val
      omega
  have h0 : (j 0).val < 2 := (j 0).isLt
  pointwise [val_main_v35, val_main_v34, val_main_v33]
  by_cases h : (j 0).val < 1
  · rw [dif_pos h, if_neg (by omega)]
    refine (old (j 1) (j 2) (j 3) (j 4)).trans ?_
    exact congrArg x4 (funext fun q => match q with | ⟨0, _⟩ => Fin.ext (by show 0 = (j 0).val; omega) | ⟨1, _⟩ => rfl | ⟨2, _⟩ => rfl | ⟨3, _⟩ => rfl | ⟨4, _⟩ => rfl)
  · rw [dif_neg h, if_pos (by omega)]
    exact v32_at x0 x1 x2 (j 1) (j 2) (j 3) (j 4)

/-- The first attention's values, transposed in blocks of 512 rows. -/
theorem v39_at (j : S8x16x512x512.Idx) : val_main_v39 (F := Ideal) x0 x1 x2 j = at0 x0 x1 x2 (j 0) (rowOf (j 1) (j 3)) (chan 1024 (by decide) (j 2)) := by
  have e : ∀ (b : Fin 8) (t : Fin 16) (r k : Fin 512), val_main_v37 (F := Ideal) x0 x1 x2 (ix4 b t r k) = at0 x0 x1 x2 b (rowOf t r) (chan 1024 (by decide) k) := by
    intro b t r k
    refine (val_main_v37_apply x0 x1 x2 _).trans (Eq.trans (congrArg (val_main_v16 (F := Ideal) x0 x1 x2) (show idx_main_v37 (ix4 b t r k) = ix3 b (rowOf t r) k from funext fun q => match q with | ⟨0, _⟩ => Fin.ext ?_ | ⟨1, _⟩ => Fin.ext ?_ | ⟨2, _⟩ => Fin.ext ?_)) (v16_at x0 x1 x2 _))
    · show (((b.val * 16 + t.val) * 512 + r.val) * 512 + k.val) / 4194304 = b.val
      omega
    · show (((b.val * 16 + t.val) * 512 + r.val) * 512 + k.val) / 512 % 8192 = t.val * 512 + r.val
      omega
    · show (((b.val * 16 + t.val) * 512 + r.val) * 512 + k.val) % 512 = k.val
      omega
  rw [val_main_v39_apply, val_main_v38_apply]
  exact Eq.trans (congrArg (val_main_v37 (F := Ideal) x0 x1 x2) (show idx_main_v38 j = ix4 (j 0) (j 1) (j 3) (j 2) from funext fun q => match q with | ⟨0, _⟩ => rfl | ⟨1, _⟩ => rfl | ⟨2, _⟩ => rfl | ⟨3, _⟩ => rfl)) (e (j 0) (j 1) (j 3) (j 2))

/-- The second attention's values, transposed in blocks of 512 rows. -/
theorem v48_at (j : S8x16x512x512.Idx) : val_main_v48 (F := Ideal) x0 x1 x2 j = at0 x0 x1 x2 (j 0) (rowOf (j 1) (j 3)) (chan 2560 (by decide) (j 2)) := by
  have e : ∀ (b : Fin 8) (t : Fin 16) (r k : Fin 512), val_main_v46 (F := Ideal) x0 x1 x2 (ix4 b t r k) = at0 x0 x1 x2 b (rowOf t r) (chan 2560 (by decide) k) := by
    intro b t r k
    refine (val_main_v46_apply x0 x1 x2 _).trans (Eq.trans (congrArg (val_main_v19 (F := Ideal) x0 x1 x2) (show idx_main_v46 (ix4 b t r k) = ix3 b (rowOf t r) k from funext fun q => match q with | ⟨0, _⟩ => Fin.ext ?_ | ⟨1, _⟩ => Fin.ext ?_ | ⟨2, _⟩ => Fin.ext ?_)) (v19_at x0 x1 x2 _))
    · show (((b.val * 16 + t.val) * 512 + r.val) * 512 + k.val) / 4194304 = b.val
      omega
    · show (((b.val * 16 + t.val) * 512 + r.val) * 512 + k.val) / 512 % 8192 = t.val * 512 + r.val
      omega
    · show (((b.val * 16 + t.val) * 512 + r.val) * 512 + k.val) % 512 = k.val
      omega
  rw [val_main_v48_apply, val_main_v47_apply]
  exact Eq.trans (congrArg (val_main_v46 (F := Ideal) x0 x1 x2) (show idx_main_v47 j = ix4 (j 0) (j 1) (j 3) (j 2) from funext fun q => match q with | ⟨0, _⟩ => rfl | ⟨1, _⟩ => rfl | ⟨2, _⟩ => rfl | ⟨3, _⟩ => rfl)) (e (j 0) (j 1) (j 3) (j 2))

/-- The second attention's keys of the last 512 rows. -/
theorem v43_at (j : S8x512x512.Idx) : val_main_v43 (F := Ideal) x0 x1 x2 j = at0 x0 x1 x2 (j 0) (rowOf 15 (j 1)) (chan 2048 (by decide) (j 2)) := by
  rw [val_main_v43_apply, v18_at]
  rfl

/-- The second attention's values of the last 512 rows. -/
theorem v44_at (j : S8x512x512.Idx) : val_main_v44 (F := Ideal) x0 x1 x2 j = at0 x0 x1 x2 (j 0) (rowOf 15 (j 1)) (chan 2560 (by decide) (j 2)) := by
  rw [val_main_v44_apply, v19_at]
  rfl

/-- The third branch's input, time-major: batch row `b` at the 512 columns from `512 * b`. -/
theorem v50_at (j : S8192x4096.Idx) : val_main_v50 (F := Ideal) x0 x1 x2 j
    = at0 x0 x1 x2 ⟨(j 1).val / 512, by have h : (j 1).val < 4096 := (j 1).isLt; omega⟩ (j 0) (chan 3072 (by decide) ⟨(j 1).val % 512, by omega⟩) := by
  have h1 : (j 1).val < 4096 := (j 1).isLt
  have h0 : (j 0).val < 8192 := (j 0).isLt
  rw [val_main_v50_apply, val_main_v49_apply, v20_at]
  have ea : (⟨((j 0).val * 4096 + (j 1).val) / 512 % 8, by omega⟩ : Fin 8) = ⟨(j 1).val / 512, by omega⟩ := Fin.ext (by show ((j 0).val * 4096 + (j 1).val) / 512 % 8 = (j 1).val / 512; omega)
  have eb : (⟨((j 0).val * 4096 + (j 1).val) / 4096, by omega⟩ : Fin 8192) = j 0 := Fin.ext (by show ((j 0).val * 4096 + (j 1).val) / 4096 = (j 0).val; omega)
  have ec : (⟨((j 0).val * 4096 + (j 1).val) % 512, by omega⟩ : Fin 512) = ⟨(j 1).val % 512, by omega⟩ := Fin.ext (by show ((j 0).val * 4096 + (j 1).val) % 512 = (j 1).val % 512; omega)
  show at0 x0 x1 x2 ⟨((j 0).val * 4096 + (j 1).val) / 512 % 8, _⟩ ⟨((j 0).val * 4096 + (j 1).val) / 4096, _⟩ (chan 3072 _ ⟨((j 0).val * 4096 + (j 1).val) % 512, _⟩) = _
  rw [ea, eb, ec]

end Reference

section Kernel

open Cert.ProjNextIdeal Cert.ProjNextIdeal.Gen

variable (m : (ℓ : Loc nD τ sig) → Buf (Elt Ideal) ℓ)

/-- Channel `n` of row `r` of the block at point `t`, from the windows' blocks. -/
abbrev row (c : Dev nD) (t : Fin cfg0.N) (r : Fin 512) (n : Fin 3584) : EReal :=
  proj (fun k => iblk m c 0 t (ix3 0 r k)) (fun k => iblk m c 1 t (ix2 0 k)) (fun i n => iblk m c 2 t (ix2 i n)) n

/-- Channel `n` of row `(b, s)`, from the arguments. -/
abbrev at1 (c : Dev nD) (b : Fin 8) (s : Fin 8192) (n : Fin 6656) : EReal :=
  proj (fun k => m ((c : Thread nD τ).loc main_arg0) (ix3 b s k)) (fun k => m ((c : Thread nD τ).loc main_arg1) (ix1 k)) (fun i n => m ((c : Thread nD τ).loc main_arg2) (ix2 i n)) n

theorem index_in : ∀ t : Fin cfg0.N, win0_0.index t = ![(grid0.coords t 0).val, (grid0.coords t 1).val, 0] ∧ win0_1.index t = ![0, 0] ∧ win0_2.index t = ![0, 0] :=
  (by decide +kernel : ∀ t : Fin grid0.N, _)

/-- A row of a point's block is the argument's row. -/
theorem row_eq (c : Dev nD) (t : Fin cfg0.N) (r : Fin 512) (n : Fin 3584) (b : Fin 8) (s : Fin 8192) (n' : Fin 6656) (hb : b.val = (grid0.coords t 0).val)
    (hs : s.val = (grid0.coords t 1).val * 512 + r.val) (hn : n'.val = n.val) : row m c t r n = at1 m c b s n' := by
  have h0 : ∀ k : Fin 1024, iblk m c 0 t (ix3 0 r k) = m ((c : Thread nD τ).loc main_arg0) (ix3 b s k) := fun k => by
    blk_ext [iblk, V_main_arg0, (index_in t).1, hb, hs]
  have h1 : ∀ k : Fin 1024, iblk m c 1 t (ix2 0 k) = m ((c : Thread nD τ).loc main_arg1) (ix1 k) := fun k => by
    blk_simp [iblk]
    entry_read
    pointwise
    blk_ext [(index_in t).2.1]
  have h2 : ∀ k : Fin 1024, iblk m c 2 t (ix2 k n) = m ((c : Thread nD τ).loc main_arg2) (ix2 k n') := fun k => by
    blk_simp [iblk]
    entry_read
    pointwise
    blk_ext [(index_in t).2.2, hn]
  unfold row at1 proj
  simp only [h0, h1, h2]

theorem out3 (c : Dev nD) (t : Fin cfg0.N) (y : S1x512x512.Idx) : (outsAt0 m c t).1 y = row m c t (y 1) (chan 0 (by decide) (y 2)) * scale := by
  unfold outsAt0
  dsimp only
  frame_out
  pointwise [k0_pay8, k0_pay7]
  refine congrArg (fun a : EReal => a * scale) (Finset.sum_congr rfl fun i _ => congrArg₂ (fun a b : EReal => a * b) rfl (congrArg (iblk m c 2 t) (funext fun a => match a with | ⟨0, _⟩ => rfl | ⟨1, _⟩ => Fin.ext ?_)))
  exact (Nat.zero_add _).symm

theorem index3 : ∀ t : Fin cfg0.N, win0_3.index t = ![(grid0.coords t 0).val, (grid0.coords t 1).val, 0] := (by decide +kernel : ∀ t : Fin grid0.N, _)

theorem arr3 (c : Dev nD) : (dats m 0 c).arrAt 3 cfg0.N = fun i : S8x8192x512.Idx => at1 m c (i 0) (i 1) (chan 0 (by decide) (i 2)) * scale := by
  refine (dats m 0 c).arrAt_eq_of_covers 3 _ (by decide +kernel) fun t hf y => ?_
  blk_simp
  rw [after0_3, out3]
  refine congrArg (fun a : EReal => a * scale) (row_eq m c t (y 1) _ (((cfg0.win 3).blk t).view.emb y 0) (((cfg0.win 3).blk t).view.emb y 1) (chan 0 (by decide) (((cfg0.win 3).blk t).view.emb y 2)) ?_ ?_ ?_)
  all_goals
    blk_simp [index3 t, chan, rowOf]
    try omega

theorem out6 (c : Dev nD) (t : Fin cfg0.N) (y : S1x512x512.Idx) : (outsAt0 m c t).2.2.2.1 y = row m c t (y 1) (chan 512 (by decide) (y 2)) := by
  unfold outsAt0
  dsimp only
  frame_out
  pointwise [k0_pay14, k0_pay9, k0_pay7]
  refine (Finset.sum_congr rfl fun i _ => congrArg₂ (fun a b : EReal => a * b) rfl (congrArg (iblk m c 2 t) (funext fun a => match a with | ⟨0, _⟩ => rfl | ⟨1, _⟩ => Fin.ext ?_)))
  rfl

theorem index6 : ∀ t : Fin cfg0.N, win0_6.index t = ![(grid0.coords t 0).val, (grid0.coords t 1).val, 0] := (by decide +kernel : ∀ t : Fin grid0.N, _)

theorem arr6 (c : Dev nD) : (dats m 0 c).arrAt 6 cfg0.N = fun i : S8x8192x512.Idx => at1 m c (i 0) (i 1) (chan 512 (by decide) (i 2)) := by
  refine (dats m 0 c).arrAt_eq_of_covers 6 _ (by decide +kernel) fun t hf y => ?_
  blk_simp
  rw [after0_6, out6]
  refine row_eq m c t (y 1) _ (((cfg0.win 6).blk t).view.emb y 0) (((cfg0.win 6).blk t).view.emb y 1) (chan 512 (by decide) (((cfg0.win 6).blk t).view.emb y 2)) ?_ ?_ ?_
  all_goals
    blk_simp [index6 t, chan, rowOf]
    try omega

theorem out8 (c : Dev nD) (t : Fin cfg0.N) (y : S1x512x512.Idx) : (outsAt0 m c t).2.2.2.2.2.1 y = row m c t (y 1) (chan 1536 (by decide) (y 2)) * scale := by
  unfold outsAt0
  dsimp only
  frame_out
  pointwise [k0_pay22, k0_pay7]
  refine congrArg (fun a : EReal => a * scale) (Finset.sum_congr rfl fun i _ => congrArg₂ (fun a b : EReal => a * b) rfl (congrArg (iblk m c 2 t) (funext fun a => match a with | ⟨0, _⟩ => rfl | ⟨1, _⟩ => Fin.ext ?_)))
  rfl

theorem index8 : ∀ t : Fin cfg0.N, win0_8.index t = ![(grid0.coords t 0).val, (grid0.coords t 1).val, 0] := (by decide +kernel : ∀ t : Fin grid0.N, _)

theorem arr8 (c : Dev nD) : (dats m 0 c).arrAt 8 cfg0.N = fun i : S8x8192x512.Idx => at1 m c (i 0) (i 1) (chan 1536 (by decide) (i 2)) * scale := by
  refine (dats m 0 c).arrAt_eq_of_covers 8 _ (by decide +kernel) fun t hf y => ?_
  blk_simp
  rw [after0_8, out8]
  refine congrArg (fun a : EReal => a * scale) (row_eq m c t (y 1) _ (((cfg0.win 8).blk t).view.emb y 0) (((cfg0.win 8).blk t).view.emb y 1) (chan 1536 (by decide) (((cfg0.win 8).blk t).view.emb y 2)) ?_ ?_ ?_)
  all_goals
    blk_simp [index8 t, chan, rowOf]
    try omega

theorem out11 (c : Dev nD) (t : Fin cfg0.N) (y : S1x512x512.Idx) : (outsAt0 m c t).2.2.2.2.2.2.2.2.1 y = row m c t (y 1) (chan 2048 (by decide) (y 2)) := by
  unfold outsAt0
  dsimp only
  frame_out
  pointwise [k0_pay2, k0_pay23, k0_pay7]
  refine (Finset.sum_congr rfl fun i _ => congrArg₂ (fun a b : EReal => a * b) rfl (congrArg (iblk m c 2 t) (funext fun a => match a with | ⟨0, _⟩ => rfl | ⟨1, _⟩ => Fin.ext ?_)))
  rfl

theorem index11 : ∀ t : Fin cfg0.N, win0_11.index t = ![(grid0.coords t 0).val, (grid0.coords t 1).val, 0] := (by decide +kernel : ∀ t : Fin grid0.N, _)

theorem arr11 (c : Dev nD) : (dats m 0 c).arrAt 11 cfg0.N = fun i : S8x8192x512.Idx => at1 m c (i 0) (i 1) (chan 2048 (by decide) (i 2)) := by
  refine (dats m 0 c).arrAt_eq_of_covers 11 _ (by decide +kernel) fun t hf y => ?_
  blk_simp
  rw [after0_11, out11]
  refine row_eq m c t (y 1) _ (((cfg0.win 11).blk t).view.emb y 0) (((cfg0.win 11).blk t).view.emb y 1) (chan 2048 (by decide) (((cfg0.win 11).blk t).view.emb y 2)) ?_ ?_ ?_
  all_goals
    blk_simp [index11 t, chan, rowOf]
    try omega

theorem out7 (c : Dev nD) (t : Fin cfg0.N) (y : S1x1x512x512.Idx) : (outsAt0 m c t).2.2.2.2.1 y = row m c t (y 3) (chan 1024 (by decide) (y 2)) := by
  unfold outsAt0
  dsimp only
  frame_out
  pointwise [k0_pay21, k0_pay15, k0_pay7]
  refine (Finset.sum_congr rfl fun i _ => congrArg₂ (fun a b : EReal => a * b) rfl (congrArg (iblk m c 2 t) (funext fun a => match a with | ⟨0, _⟩ => rfl | ⟨1, _⟩ => Fin.ext ?_)))
  rfl

theorem index7 : ∀ t : Fin cfg0.N, win0_7.index t = ![(grid0.coords t 0).val, (grid0.coords t 1).val, 0, 0] := (by decide +kernel : ∀ t : Fin grid0.N, _)

theorem arr7 (c : Dev nD) : (dats m 0 c).arrAt 7 cfg0.N = fun i : S8x16x512x512.Idx => at1 m c (i 0) (rowOf (i 1) (i 3)) (chan 1024 (by decide) (i 2)) := by
  refine (dats m 0 c).arrAt_eq_of_covers 7 _ (by decide +kernel) fun t hf y => ?_
  blk_simp
  rw [after0_7, out7]
  refine row_eq m c t (y 3) _ (((cfg0.win 7).blk t).view.emb y 0) (rowOf (((cfg0.win 7).blk t).view.emb y 1) (((cfg0.win 7).blk t).view.emb y 3)) (chan 1024 (by decide) (((cfg0.win 7).blk t).view.emb y 2)) ?_ ?_ ?_
  all_goals
    blk_simp [index7 t, chan, rowOf]
    try omega

theorem out12 (c : Dev nD) (t : Fin cfg0.N) (y : S1x1x512x512.Idx) : (outsAt0 m c t).2.2.2.2.2.2.2.2.2.1 y = row m c t (y 3) (chan 2560 (by decide) (y 2)) := by
  unfold outsAt0
  dsimp only
  frame_out
  pointwise [k0_pay5, k0_pay3, k0_pay7]
  refine (Finset.sum_congr rfl fun i _ => congrArg₂ (fun a b : EReal => a * b) rfl (congrArg (iblk m c 2 t) (funext fun a => match a with | ⟨0, _⟩ => rfl | ⟨1, _⟩ => Fin.ext ?_)))
  rfl

theorem index12 : ∀ t : Fin cfg0.N, win0_12.index t = ![(grid0.coords t 0).val, (grid0.coords t 1).val, 0, 0] := (by decide +kernel : ∀ t : Fin grid0.N, _)

theorem arr12 (c : Dev nD) : (dats m 0 c).arrAt 12 cfg0.N = fun i : S8x16x512x512.Idx => at1 m c (i 0) (rowOf (i 1) (i 3)) (chan 2560 (by decide) (i 2)) := by
  refine (dats m 0 c).arrAt_eq_of_covers 12 _ (by decide +kernel) fun t hf y => ?_
  blk_simp
  rw [after0_12, out12]
  refine row_eq m c t (y 3) _ (((cfg0.win 12).blk t).view.emb y 0) (rowOf (((cfg0.win 12).blk t).view.emb y 1) (((cfg0.win 12).blk t).view.emb y 3)) (chan 2560 (by decide) (((cfg0.win 12).blk t).view.emb y 2)) ?_ ?_ ?_
  all_goals
    blk_simp [index12 t, chan, rowOf]
    try omega

theorem out9 (c : Dev nD) (t : Fin cfg0.N) (y : S1x512x512.Idx) : (outsAt0 m c t).2.2.2.2.2.2.1 y = row m c t (y 1) (chan 2048 (by decide) (y 2)) := by
  unfold outsAt0
  dsimp only
  frame_out
  pointwise [k0_pay1, k0_pay23, k0_pay7]
  refine (Finset.sum_congr rfl fun i _ => congrArg₂ (fun a b : EReal => a * b) rfl (congrArg (iblk m c 2 t) (funext fun a => match a with | ⟨0, _⟩ => rfl | ⟨1, _⟩ => Fin.ext ?_)))
  rfl

theorem index9 : ∀ t : Fin cfg0.N, win0_9.index t = ![(grid0.coords t 0).val, 0, 0] := (by decide +kernel : ∀ t : Fin grid0.N, _)

theorem last_point : ∀ t : Fin cfg0.N, t.val % 16 = 15 → (grid0.coords t 1).val = 15 := (by decide +kernel : ∀ t : Fin grid0.N, t.val % 16 = 15 → (grid0.coords t 1).val = 15)

theorem arr9 (c : Dev nD) : (dats m 0 c).arrAt 9 cfg0.N = fun i : S8x512x512.Idx => at1 m c (i 0) (rowOf 15 (i 1)) (chan 2048 (by decide) (i 2)) := by
  refine (dats m 0 c).arrAt_eq_of_covers 9 _ (by decide +kernel) fun t hf y => ?_
  have hl := last_point t ((flush0_9 t).mp hf)
  blk_simp
  rw [after0_9, out9]
  refine row_eq m c t (y 1) _ (((cfg0.win 9).blk t).view.emb y 0) (rowOf 15 (((cfg0.win 9).blk t).view.emb y 1)) (chan 2048 (by decide) (((cfg0.win 9).blk t).view.emb y 2)) ?_ ?_ ?_
  all_goals
    blk_simp [index9 t, chan, rowOf, hl]
    try rfl

theorem out10 (c : Dev nD) (t : Fin cfg0.N) (y : S1x512x512.Idx) : (outsAt0 m c t).2.2.2.2.2.2.2.1 y = row m c t (y 1) (chan 2560 (by decide) (y 2)) := by
  unfold outsAt0
  dsimp only
  frame_out
  pointwise [k0_pay4, k0_pay3, k0_pay7]
  refine (Finset.sum_congr rfl fun i _ => congrArg₂ (fun a b : EReal => a * b) rfl (congrArg (iblk m c 2 t) (funext fun a => match a with | ⟨0, _⟩ => rfl | ⟨1, _⟩ => Fin.ext ?_)))
  rfl

theorem index10 : ∀ t : Fin cfg0.N, win0_10.index t = ![(grid0.coords t 0).val, 0, 0] := (by decide +kernel : ∀ t : Fin grid0.N, _)

theorem arr10 (c : Dev nD) : (dats m 0 c).arrAt 10 cfg0.N = fun i : S8x512x512.Idx => at1 m c (i 0) (rowOf 15 (i 1)) (chan 2560 (by decide) (i 2)) := by
  refine (dats m 0 c).arrAt_eq_of_covers 10 _ (by decide +kernel) fun t hf y => ?_
  have hl := last_point t ((flush0_10 t).mp hf)
  blk_simp
  rw [after0_10, out10]
  refine row_eq m c t (y 1) _ (((cfg0.win 10).blk t).view.emb y 0) (rowOf 15 (((cfg0.win 10).blk t).view.emb y 1)) (chan 2560 (by decide) (((cfg0.win 10).blk t).view.emb y 2)) ?_ ?_ ?_
  all_goals
    blk_simp [index10 t, chan, rowOf, hl]
    try rfl

theorem out13 (c : Dev nD) (t : Fin cfg0.N) (y : S512x512.Idx) : (outsAt0 m c t).2.2.2.2.2.2.2.2.2.2 y = row m c t (y 0) (chan 3072 (by decide) (y 1)) := by
  unfold outsAt0
  dsimp only
  frame_out
  pointwise [k0_pay6, k0_pay7]
  refine (Finset.sum_congr rfl fun i _ => congrArg₂ (fun a b : EReal => a * b) rfl (congrArg (iblk m c 2 t) (funext fun a => match a with | ⟨0, _⟩ => rfl | ⟨1, _⟩ => Fin.ext ?_)))
  rfl

theorem index13 : ∀ t : Fin cfg0.N, win0_13.index t = ![(grid0.coords t 1).val, (grid0.coords t 0).val] := (by decide +kernel : ∀ t : Fin grid0.N, _)

theorem arr13 (c : Dev nD) : (dats m 0 c).arrAt 13 cfg0.N = fun i : S8192x4096.Idx => at1 m c ⟨(i 1).val / 512, by have h : (i 1).val < 4096 := (i 1).isLt; omega⟩ (i 0) (chan 3072 (by decide) ⟨(i 1).val % 512, by omega⟩) := by
  refine (dats m 0 c).arrAt_eq_of_covers 13 _ (by decide +kernel) fun t hf y => ?_
  have hy : (y 1).val < 512 := (y 1).isLt
  blk_simp
  rw [after0_13, out13]
  refine row_eq m c t (y 0) _ _ _ _ ?_ ?_ ?_
  · blk_simp [index13 t]
    show ((grid0.coords t 0).val * 512 + (y 1).val) / 512 = (grid0.coords t 0).val
    omega
  · blk_simp [index13 t]
  · blk_simp [index13 t, chan]
    show 3072 + ((grid0.coords t 0).val * 512 + (y 1).val) % 512 = 3072 + (y 1).val
    omega

/-- Head 0 of the block, stored to window 4. -/
theorem head4_0 (c : Dev nD) (t : Fin cfg0.N) (z : S1x1x512x1x128.Idx) :
    k0_pay10 (iblk m c 0 t) (iblk m c 1 t) (View.ld (iblk m c 2 t) (Rect.unit ![0, 512] ![1024, 512] inb_S1024x3584_S1024x512_0_512)) z = row m c t (z 2) (chan 512 (by decide) (head 0 (z 4))) := by
  idx_vars z
  pointwise [k0_pay10, k0_pay9, k0_pay7]
  refine Finset.sum_congr rfl fun i _ => congrArg₂ (fun a b : EReal => a * b) rfl (congrArg (iblk m c 2 t) (funext fun a => match a with | ⟨0, _⟩ => rfl | ⟨1, _⟩ => Fin.ext ?_))
  show 512 + z4.val = 512 + (0 * 128 + z4.val)
  omega

/-- Head 1 of the block, stored to window 4. -/
theorem head4_1 (c : Dev nD) (t : Fin cfg0.N) (z : S1x1x512x1x128.Idx) :
    k0_pay11 (k0_pay9 (iblk m c 0 t) (iblk m c 1 t) (View.ld (iblk m c 2 t) (Rect.unit ![0, 512] ![1024, 512] inb_S1024x3584_S1024x512_0_512))) z = row m c t (z 2) (chan 512 (by decide) (head 1 (z 4))) := by
  idx_vars z
  pointwise [k0_pay11, k0_pay9, k0_pay7]
  refine Finset.sum_congr rfl fun i _ => congrArg₂ (fun a b : EReal => a * b) rfl (congrArg (iblk m c 2 t) (funext fun a => match a with | ⟨0, _⟩ => rfl | ⟨1, _⟩ => Fin.ext ?_))
  show 512 + (128 + z4.val) = 512 + (1 * 128 + z4.val)
  omega

/-- Head 2 of the block, stored to window 4. -/
theorem head4_2 (c : Dev nD) (t : Fin cfg0.N) (z : S1x1x512x1x128.Idx) :
    k0_pay12 (k0_pay9 (iblk m c 0 t) (iblk m c 1 t) (View.ld (iblk m c 2 t) (Rect.unit ![0, 512] ![1024, 512] inb_S1024x3584_S1024x512_0_512))) z = row m c t (z 2) (chan 512 (by decide) (head 2 (z 4))) := by
  idx_vars z
  pointwise [k0_pay12, k0_pay9, k0_pay7]
  refine Finset.sum_congr rfl fun i _ => congrArg₂ (fun a b : EReal => a * b) rfl (congrArg (iblk m c 2 t) (funext fun a => match a with | ⟨0, _⟩ => rfl | ⟨1, _⟩ => Fin.ext ?_))
  show 512 + (256 + z4.val) = 512 + (2 * 128 + z4.val)
  omega

/-- Head 3 of the block, stored to window 4. -/
theorem head4_3 (c : Dev nD) (t : Fin cfg0.N) (z : S1x1x512x1x128.Idx) :
    k0_pay13 (k0_pay9 (iblk m c 0 t) (iblk m c 1 t) (View.ld (iblk m c 2 t) (Rect.unit ![0, 512] ![1024, 512] inb_S1024x3584_S1024x512_0_512))) z = row m c t (z 2) (chan 512 (by decide) (head 3 (z 4))) := by
  idx_vars z
  pointwise [k0_pay13, k0_pay9, k0_pay7]
  refine Finset.sum_congr rfl fun i _ => congrArg₂ (fun a b : EReal => a * b) rfl (congrArg (iblk m c 2 t) (funext fun a => match a with | ⟨0, _⟩ => rfl | ⟨1, _⟩ => Fin.ext ?_))
  show 512 + (384 + z4.val) = 512 + (3 * 128 + z4.val)
  omega

theorem out4 (c : Dev nD) (t : Fin cfg0.N) (y : S1x1x512x4x128.Idx) : (outsAt0 m c t).2.1 y = row m c t (y 2) (chan 512 (by decide) (head (y 3) (y 4))) := by
  unfold outsAt0
  dsimp only
  frame_out
  refine View.canon_eq_of_allAt _ y _ (View.cover_of_tiledBy _ ![1, 1, 512, 1, 128] (by sl_kernel_rfl) y) ?_
  refine View.allAt_cons _ _ _ (fun x hx => ?_) ?_
  · have h (a : Fin 5) := congrArg (fun z : S1x1x512x4x128.Idx => (z a).val) hx
    refine (head4_3 m c t x).trans ?_
    have e2 : 0 + 1 * (x 2).val = (y 2).val := h 2
    have e3 : 3 + 1 * (x 3).val = (y 3).val := h 3
    have e4 : 0 + 1 * (x 4).val = (y 4).val := h 4
    have l3 : (x 3).val < 1 := (x 3).isLt
    refine congrArg₂ (fun r n => row m c t r n) (Fin.ext ?_) (Fin.ext ?_)
    · show (x 2).val = (y 2).val
      omega
    · show 512 + (3 * 128 + (x 4).val) = 512 + ((y 3).val * 128 + (y 4).val)
      omega
  refine View.allAt_cons _ _ _ (fun x hx => ?_) ?_
  · have h (a : Fin 5) := congrArg (fun z : S1x1x512x4x128.Idx => (z a).val) hx
    refine (head4_2 m c t x).trans ?_
    have e2 : 0 + 1 * (x 2).val = (y 2).val := h 2
    have e3 : 2 + 1 * (x 3).val = (y 3).val := h 3
    have e4 : 0 + 1 * (x 4).val = (y 4).val := h 4
    have l3 : (x 3).val < 1 := (x 3).isLt
    refine congrArg₂ (fun r n => row m c t r n) (Fin.ext ?_) (Fin.ext ?_)
    · show (x 2).val = (y 2).val
      omega
    · show 512 + (2 * 128 + (x 4).val) = 512 + ((y 3).val * 128 + (y 4).val)
      omega
  refine View.allAt_cons _ _ _ (fun x hx => ?_) ?_
  · have h (a : Fin 5) := congrArg (fun z : S1x1x512x4x128.Idx => (z a).val) hx
    refine (head4_1 m c t x).trans ?_
    have e2 : 0 + 1 * (x 2).val = (y 2).val := h 2
    have e3 : 1 + 1 * (x 3).val = (y 3).val := h 3
    have e4 : 0 + 1 * (x 4).val = (y 4).val := h 4
    have l3 : (x 3).val < 1 := (x 3).isLt
    refine congrArg₂ (fun r n => row m c t r n) (Fin.ext ?_) (Fin.ext ?_)
    · show (x 2).val = (y 2).val
      omega
    · show 512 + (1 * 128 + (x 4).val) = 512 + ((y 3).val * 128 + (y 4).val)
      omega
  refine View.allAt_cons _ _ _ (fun x hx => ?_) (View.allAt_nil _ _)
  have h (a : Fin 5) := congrArg (fun z : S1x1x512x4x128.Idx => (z a).val) hx
  refine (head4_0 m c t x).trans ?_
  have e2 : 0 + 1 * (x 2).val = (y 2).val := h 2
  have e3 : 0 + 1 * (x 3).val = (y 3).val := h 3
  have e4 : 0 + 1 * (x 4).val = (y 4).val := h 4
  have l3 : (x 3).val < 1 := (x 3).isLt
  refine congrArg₂ (fun r n => row m c t r n) (Fin.ext ?_) (Fin.ext ?_)
  · show (x 2).val = (y 2).val
    omega
  · show 512 + (0 * 128 + (x 4).val) = 512 + ((y 3).val * 128 + (y 4).val)
    omega

theorem index4 : ∀ t : Fin cfg0.N, win0_4.index t = ![1, (grid0.coords t 0).val, (grid0.coords t 1).val, 0, 0] := (by decide +kernel : ∀ t : Fin grid0.N, _)

/-- The cache that window 4 writes: slot 1 this layer's, slot 0 as it was. -/
theorem arr4 (c : Dev nD) : (dats m 0 c).arrAt 4 cfg0.N
    = fun i : S2x8x8192x4x128.Idx => if 1 ≤ (i 0).val then at1 m c (i 1) (i 2) (chan 512 (by decide) (head (i 3) (i 4))) else m ((c : Thread nD τ).loc main_arg3) i := by
  refine ((dats m 0 c).arrAt_eq_of_coversWhere 4 (fun i : S2x8x8192x4x128.Idx => at1 m c (i 1) (i 2) (chan 512 (by decide) (head (i 3) (i 4)))) (P := fun i : S2x8x8192x4x128.Idx => 1 ≤ (i 0).val) (fun β => 1 ≤ β (0 : Fin 5)) (by decide +kernel)
    (fun t hf y => ?_) (fun j => ?_)).trans (funext fun i => ite_congr rfl (fun _ => rfl) fun _ => ?_)
  · blk_simp
    rw [after0_4, out4]
    refine row_eq m c t (y 2) _ (((cfg0.win 4).blk t).view.emb y 1) (((cfg0.win 4).blk t).view.emb y 2) (chan 512 (by decide) (head (((cfg0.win 4).blk t).view.emb y 3) (((cfg0.win 4).blk t).view.emb y 4))) ?_ ?_ ?_
    all_goals
      blk_simp [index4 t, chan, head]
      try omega
  · blk_simp [Pipeline.Window.cell_apply]
    try omega
  · show V m c (Pipeline.arrRef spec0 4) i = _
    entry_read
    rfl

/-- Head 0 of the block, stored to window 5. -/
theorem head5_0 (c : Dev nD) (t : Fin cfg0.N) (z : S1x1x512x1x128.Idx) :
    k0_pay16 (k0_pay7 (iblk m c 0 t) (iblk m c 1 t)) (View.ld (iblk m c 2 t) (Rect.unit ![0, 1024] ![1024, 512] inb_S1024x3584_S1024x512_0_1024)) z = row m c t (z 2) (chan 1024 (by decide) (head 0 (z 4))) := by
  idx_vars z
  pointwise [k0_pay16, k0_pay7, k0_pay15]
  refine Finset.sum_congr rfl fun i _ => congrArg₂ (fun a b : EReal => a * b) rfl (congrArg (iblk m c 2 t) (funext fun a => match a with | ⟨0, _⟩ => rfl | ⟨1, _⟩ => Fin.ext ?_))
  show 1024 + z4.val = 1024 + (0 * 128 + z4.val)
  omega

/-- Head 1 of the block, stored to window 5. -/
theorem head5_1 (c : Dev nD) (t : Fin cfg0.N) (z : S1x1x512x1x128.Idx) :
    k0_pay18 (k0_pay17 (k0_pay7 (iblk m c 0 t) (iblk m c 1 t)) (View.ld (iblk m c 2 t) (Rect.unit ![0, 1024] ![1024, 512] inb_S1024x3584_S1024x512_0_1024))) z = row m c t (z 2) (chan 1024 (by decide) (head 1 (z 4))) := by
  idx_vars z
  pointwise [k0_pay18, k0_pay17, k0_pay7, k0_pay15]
  refine Finset.sum_congr rfl fun i _ => congrArg₂ (fun a b : EReal => a * b) rfl (congrArg (iblk m c 2 t) (funext fun a => match a with | ⟨0, _⟩ => rfl | ⟨1, _⟩ => Fin.ext ?_))
  show 1024 + (128 + z4.val) = 1024 + (1 * 128 + z4.val)
  omega

/-- Head 2 of the block, stored to window 5. -/
theorem head5_2 (c : Dev nD) (t : Fin cfg0.N) (z : S1x1x512x1x128.Idx) :
    k0_pay19 (k0_pay15 (k0_pay7 (iblk m c 0 t) (iblk m c 1 t)) (View.ld (iblk m c 2 t) (Rect.unit ![0, 1024] ![1024, 512] inb_S1024x3584_S1024x512_0_1024))) z = row m c t (z 2) (chan 1024 (by decide) (head 2 (z 4))) := by
  idx_vars z
  pointwise [k0_pay19, k0_pay15, k0_pay7]
  refine Finset.sum_congr rfl fun i _ => congrArg₂ (fun a b : EReal => a * b) rfl (congrArg (iblk m c 2 t) (funext fun a => match a with | ⟨0, _⟩ => rfl | ⟨1, _⟩ => Fin.ext ?_))
  show 1024 + (256 + z4.val) = 1024 + (2 * 128 + z4.val)
  omega

/-- Head 3 of the block, stored to window 5. -/
theorem head5_3 (c : Dev nD) (t : Fin cfg0.N) (z : S1x1x512x1x128.Idx) :
    k0_pay20 (k0_pay15 (k0_pay7 (iblk m c 0 t) (iblk m c 1 t)) (View.ld (iblk m c 2 t) (Rect.unit ![0, 1024] ![1024, 512] inb_S1024x3584_S1024x512_0_1024))) z = row m c t (z 2) (chan 1024 (by decide) (head 3 (z 4))) := by
  idx_vars z
  pointwise [k0_pay20, k0_pay15, k0_pay7]
  refine Finset.sum_congr rfl fun i _ => congrArg₂ (fun a b : EReal => a * b) rfl (congrArg (iblk m c 2 t) (funext fun a => match a with | ⟨0, _⟩ => rfl | ⟨1, _⟩ => Fin.ext ?_))
  show 1024 + (384 + z4.val) = 1024 + (3 * 128 + z4.val)
  omega

theorem out5 (c : Dev nD) (t : Fin cfg0.N) (y : S1x1x512x4x128.Idx) : (outsAt0 m c t).2.2.1 y = row m c t (y 2) (chan 1024 (by decide) (head (y 3) (y 4))) := by
  unfold outsAt0
  dsimp only
  frame_out
  refine View.canon_eq_of_allAt _ y _ (View.cover_of_tiledBy _ ![1, 1, 512, 1, 128] (by sl_kernel_rfl) y) ?_
  refine View.allAt_cons _ _ _ (fun x hx => ?_) ?_
  · have h (a : Fin 5) := congrArg (fun z : S1x1x512x4x128.Idx => (z a).val) hx
    refine (head5_3 m c t x).trans ?_
    have e2 : 0 + 1 * (x 2).val = (y 2).val := h 2
    have e3 : 3 + 1 * (x 3).val = (y 3).val := h 3
    have e4 : 0 + 1 * (x 4).val = (y 4).val := h 4
    have l3 : (x 3).val < 1 := (x 3).isLt
    refine congrArg₂ (fun r n => row m c t r n) (Fin.ext ?_) (Fin.ext ?_)
    · show (x 2).val = (y 2).val
      omega
    · show 1024 + (3 * 128 + (x 4).val) = 1024 + ((y 3).val * 128 + (y 4).val)
      omega
  refine View.allAt_cons _ _ _ (fun x hx => ?_) ?_
  · have h (a : Fin 5) := congrArg (fun z : S1x1x512x4x128.Idx => (z a).val) hx
    refine (head5_2 m c t x).trans ?_
    have e2 : 0 + 1 * (x 2).val = (y 2).val := h 2
    have e3 : 2 + 1 * (x 3).val = (y 3).val := h 3
    have e4 : 0 + 1 * (x 4).val = (y 4).val := h 4
    have l3 : (x 3).val < 1 := (x 3).isLt
    refine congrArg₂ (fun r n => row m c t r n) (Fin.ext ?_) (Fin.ext ?_)
    · show (x 2).val = (y 2).val
      omega
    · show 1024 + (2 * 128 + (x 4).val) = 1024 + ((y 3).val * 128 + (y 4).val)
      omega
  refine View.allAt_cons _ _ _ (fun x hx => ?_) ?_
  · have h (a : Fin 5) := congrArg (fun z : S1x1x512x4x128.Idx => (z a).val) hx
    refine (head5_1 m c t x).trans ?_
    have e2 : 0 + 1 * (x 2).val = (y 2).val := h 2
    have e3 : 1 + 1 * (x 3).val = (y 3).val := h 3
    have e4 : 0 + 1 * (x 4).val = (y 4).val := h 4
    have l3 : (x 3).val < 1 := (x 3).isLt
    refine congrArg₂ (fun r n => row m c t r n) (Fin.ext ?_) (Fin.ext ?_)
    · show (x 2).val = (y 2).val
      omega
    · show 1024 + (1 * 128 + (x 4).val) = 1024 + ((y 3).val * 128 + (y 4).val)
      omega
  refine View.allAt_cons _ _ _ (fun x hx => ?_) (View.allAt_nil _ _)
  have h (a : Fin 5) := congrArg (fun z : S1x1x512x4x128.Idx => (z a).val) hx
  refine (head5_0 m c t x).trans ?_
  have e2 : 0 + 1 * (x 2).val = (y 2).val := h 2
  have e3 : 0 + 1 * (x 3).val = (y 3).val := h 3
  have e4 : 0 + 1 * (x 4).val = (y 4).val := h 4
  have l3 : (x 3).val < 1 := (x 3).isLt
  refine congrArg₂ (fun r n => row m c t r n) (Fin.ext ?_) (Fin.ext ?_)
  · show (x 2).val = (y 2).val
    omega
  · show 1024 + (0 * 128 + (x 4).val) = 1024 + ((y 3).val * 128 + (y 4).val)
    omega

theorem index5 : ∀ t : Fin cfg0.N, win0_5.index t = ![1, (grid0.coords t 0).val, (grid0.coords t 1).val, 0, 0] := (by decide +kernel : ∀ t : Fin grid0.N, _)

/-- The cache that window 5 writes: slot 1 this layer's, slot 0 as it was. -/
theorem arr5 (c : Dev nD) : (dats m 0 c).arrAt 5 cfg0.N
    = fun i : S2x8x8192x4x128.Idx => if 1 ≤ (i 0).val then at1 m c (i 1) (i 2) (chan 1024 (by decide) (head (i 3) (i 4))) else m ((c : Thread nD τ).loc main_arg4) i := by
  refine ((dats m 0 c).arrAt_eq_of_coversWhere 5 (fun i : S2x8x8192x4x128.Idx => at1 m c (i 1) (i 2) (chan 1024 (by decide) (head (i 3) (i 4)))) (P := fun i : S2x8x8192x4x128.Idx => 1 ≤ (i 0).val) (fun β => 1 ≤ β (0 : Fin 5)) (by decide +kernel)
    (fun t hf y => ?_) (fun j => ?_)).trans (funext fun i => ite_congr rfl (fun _ => rfl) fun _ => ?_)
  · blk_simp
    rw [after0_5, out5]
    refine row_eq m c t (y 2) _ (((cfg0.win 5).blk t).view.emb y 1) (((cfg0.win 5).blk t).view.emb y 2) (chan 1024 (by decide) (head (((cfg0.win 5).blk t).view.emb y 3) (((cfg0.win 5).blk t).view.emb y 4))) ?_ ?_ ?_
    all_goals
      blk_simp [index5 t, chan, head]
      try omega
  · blk_simp [Pipeline.Window.cell_apply]
    try omega
  · show V m c (Pipeline.arrRef spec0 5) i = _
    entry_read
    rfl

end Kernel

end Cert.Ffw.ProjNext

end
-- ==== Proof.lean ====
module

public import proofs.«01_k».proof.Defs
public import proofs.«01_k».proof.Proof.ExpertsTables
public import proofs.«01_k».proof.Proof.ExpertsValue
public import proofs.«01_k».proof.Proof.ExpertsRefValue
public import proofs.«01_k».proof.Proof.FfnValue
public import proofs.«01_k».proof.Proof.MergeValue
public import proofs.«01_k».proof.Proof.ProjValue
public import proofs.«01_k».proof.Proof.ProjNextValue
public import proofs.«01_k».proof.Proof.Gen.Experts
public import proofs.«01_k».proof.Proof.Gen.ExpertsIdeal
public import proofs.«01_k».proof.Proof.Gen.ExpertsRefIdeal.Run
public import proofs.«01_k».proof.Proof.Gen.ExpertsRefIdeal.Read
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Pre_experts_in_range
public import proofs.«01_k».proof.Proof.Gen.Merge.Frame
public import proofs.«01_k».proof.Proof.Gen.Proj.Frame
public import proofs.«01_k».proof.Proof.Gen.ProjNext.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.ProjIdeal.Value
public import proofs.«01_k».proof.Proof.Gen.ProjNextIdeal.Value
public import proofs.«01_k».proof.Proof.Gen.ProjRefIdeal.Run
public import proofs.«01_k».proof.Proof.Gen.ProjNextRefIdeal.Run
public import proofs.«01_k».proof.Proof.Gen.ProjRefIdeal.Read
public import proofs.«01_k».proof.Proof.Gen.ProjNextRefIdeal.Read
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Ffw

/-! ## The experts -/

theorem frame_experts : Cert.quiescent_Experts := fun m ρ hpre =>
  Cert.Experts.Held.frame m ρ (Cert.Experts.Held.ok_of_pre m hpre) (Cert.Experts.Held.live_of_pre m hpre)

theorem frame_expertsIdeal : Cert.quiescent_ExpertsIdeal := fun m ρ hpre =>
  Cert.ExpertsIdeal.Held.frame m ρ (Cert.ExpertsIdeal.Held.ok_of_pre m hpre) (Cert.ExpertsIdeal.Held.live_of_pre m hpre)

/-- The reference declares no semaphore. -/
theorem frame_expertsRef : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- A bit that isn't one is zero. -/
theorem bit_zero (b : BitVec 1) (h : ¬ b = 1#1) : b = 0#1 := by
  revert b
  decide

open Cert.ExpertsIdeal.Held in
/-- The reference's array on the kernel's arguments is the kernel's array. -/
theorem experts_same (m : (ℓ : Loc Cert.ExpertsIdeal.nD Cert.ExpertsIdeal.τ Cert.ExpertsIdeal.sig) → Buf (Elt Ideal) ℓ)
    (hlt : ∀ t : Fin 264, (expert m t).toNat < 8) :
    Cert.ExpertsRefIdeal.Read.val_main_v36 (F := Ideal) (m (((0 : Dev Cert.ExpertsIdeal.nD) : Thread Cert.ExpertsIdeal.nD Cert.ExpertsIdeal.τ).loc Cert.ExpertsIdeal.main_arg0))
        (m (((0 : Dev Cert.ExpertsIdeal.nD) : Thread Cert.ExpertsIdeal.nD Cert.ExpertsIdeal.τ).loc Cert.ExpertsIdeal.main_arg1))
        (m (((0 : Dev Cert.ExpertsIdeal.nD) : Thread Cert.ExpertsIdeal.nD Cert.ExpertsIdeal.τ).loc Cert.ExpertsIdeal.main_arg2))
        (m (((0 : Dev Cert.ExpertsIdeal.nD) : Thread Cert.ExpertsIdeal.nD Cert.ExpertsIdeal.τ).loc Cert.ExpertsIdeal.main_arg3))
        (m (((0 : Dev Cert.ExpertsIdeal.nD) : Thread Cert.ExpertsIdeal.nD Cert.ExpertsIdeal.τ).loc Cert.ExpertsIdeal.main_arg4))
        (m (((0 : Dev Cert.ExpertsIdeal.nD) : Thread Cert.ExpertsIdeal.nD Cert.ExpertsIdeal.τ).loc Cert.ExpertsIdeal.main_arg5))
        (m (((0 : Dev Cert.ExpertsIdeal.nD) : Thread Cert.ExpertsIdeal.nD Cert.ExpertsIdeal.τ).loc Cert.ExpertsIdeal.main_arg6))
      = fun i : Cert.ExpertsIdeal.S135168x1024.Idx => entry m hlt 0 (i 0) (i 1) := by
  funext i
  obtain ⟨n, d, rfl⟩ : ∃ (n : Fin 135168) (d : Fin 1024), i = ix2 n d := ⟨i 0, i 1, funext fun a => match a with | ⟨0, _⟩ => rfl | ⟨1, _⟩ => rfl⟩
  show _ = entry m hlt 0 n d
  unfold entry
  by_cases h : IntOp.cmpi .sgt (count m ⟨n.val / 512, by omega⟩) 0#32 = 1#1
  · refine Eq.trans ?_ (if_pos h).symm
    exact Cert.ExpertsRefIdeal.Held.out_used _ _ _ _ _ _ _ n d h ⟨(expert m ⟨n.val / 512, by omega⟩).toNat, hlt _⟩ (BitVec.eq_of_toNat_eq (by
      rw [BitVec.toNat_ofNat]
      exact (Nat.mod_eq_of_lt (BitVec.isLt _)).symm))
  · refine Eq.trans ?_ (if_neg h).symm
    exact Cert.ExpertsRefIdeal.Held.out_unused _ _ _ _ _ _ _ n d (bit_zero _ h)

/-- The experts' call and its reference end with equal results. -/
theorem algebraic_experts : Cert.algebraic_ExpertsIdeal_ExpertsRefIdeal := by
  intro m ρ m' ρ' hpre hagree
  have hO := Cert.ExpertsIdeal.Held.ok_of_pre m hpre
  have hL := Cert.ExpertsIdeal.Held.live_of_pre m hpre
  have hlt := Cert.ExpertsIdeal.Held.expert_lt m hpre
  refine ⟨fun c => fun i : Cert.ExpertsIdeal.S135168x1024.Idx => Cert.ExpertsIdeal.Held.entry m hlt c (i 0) (i 1), ?_, ?_⟩
  · refine (θ_run Cert.ExpertsIdeal.defs _ _).mono (fun r h c => ⟨?_, h.2 c⟩)
      (θ_run_and (Cert.ExpertsIdeal.Held.run_main m ρ hO hL) (Cert.ExpertsIdeal.Held.unchanged m ρ hO hL))
    exact ((h.1 c).1 5).trans (Cert.ExpertsIdeal.Held.array_eq m hO hL hlt c)
  · refine (θ_run Cert.ExpertsRefIdeal.defs _ _).mono (fun r h c => ⟨(h c).1.trans ?_, (h c).2⟩)
      (Cert.ExpertsRefIdeal.Value.run (F := Ideal) m' ρ')
    obtain rfl : c = 0 := Subsingleton.elim _ _
    obtain ⟨h0, h1, h2, h3, h4, h5, h6⟩ := hagree 0
    refine (Cert.ExpertsRefIdeal.Read.val_main_v36_eq m' 0).trans ?_
    rw [h0, h1, h2, h3, h4, h5, h6]
    exact experts_same m hlt

/-! ## The feed-forward -/

theorem frame_ffn : Cert.quiescent_Ffn := fun m ρ _ => Cert.Ffn.Gen.frame m ρ

theorem frame_ffnIdeal : Cert.quiescent_FfnIdeal := fun m ρ _ => Cert.FfnIdeal.Gen.frame m ρ

/-- The reference declares no semaphore. -/
theorem frame_ffnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The feed-forward call and its reference end with equal results. -/
theorem algebraic_ffn : Cert.algebraic_FfnIdeal_FfnRefIdeal := by
  intro m ρ m' ρ' _ hagree
  refine ⟨fun c => (Cert.FfnIdeal.Gen.dats m 0 c).arrAt 6 Cert.FfnIdeal.cfg0.N, ?_, ?_⟩
  · exact Cert.FfnIdeal.Value.run_blocks m ρ
  · refine (θ_run Cert.FfnRefIdeal.defs _ _).mono (fun r h c => ⟨(h c).1.trans ?_, (h c).2⟩)
      (Cert.FfnRefIdeal.Value.run (F := Ideal) m' ρ')
    obtain ⟨h0, h1, h2, h3, h4, _⟩ := hagree c
    rw [h0, h1, h2, h3, h4]
    refine (Cert.FfnRefIdeal.Read.val_main_v18_eq _ _ _ _ _).trans (Eq.trans ?_ (Cert.Ffw.Dense.array_eq m c).symm)
    funext i
    obtain ⟨b, s, d, rfl⟩ : ∃ (b : Fin 8) (s : Fin 8192) (d : Fin 1024), i = ix3 b s d :=
      ⟨i 0, i 1, i 2, funext fun a => match a with | ⟨0, _⟩ => rfl | ⟨1, _⟩ => rfl | ⟨2, _⟩ => rfl⟩
    exact Cert.Ffw.Dense.ref_at _ _ _ _ _ b s d

/-! ## The merge of the branches -/

theorem frame_merge : Cert.quiescent_Merge := fun m ρ _ => Cert.Merge.Gen.frame m ρ

theorem frame_mergeIdeal : Cert.quiescent_MergeIdeal := fun m ρ _ => Cert.MergeIdeal.Gen.frame m ρ

/-- The reference declares no semaphore. -/
theorem frame_mergeRef : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The merge and its reference end with equal results. -/
theorem algebraic_merge : Cert.algebraic_MergeIdeal_MergeRefIdeal := by
  intro m ρ m' ρ' _ hagree
  refine ⟨fun c => (Cert.MergeIdeal.Gen.dats m 0 c).arrAt 10 Cert.MergeIdeal.cfg0.N, ?_, ?_⟩
  · exact Cert.MergeIdeal.Value.run_blocks m ρ
  · refine (θ_run Cert.MergeRefIdeal.defs _ _).mono (fun r h c => ⟨(h c).1.trans ?_, (h c).2⟩)
      (Cert.MergeRefIdeal.Value.run (F := Ideal) m' ρ')
    obtain ⟨h0, h1, h2, h3, h4, h5, h6, h7, h8, h9⟩ := hagree c
    refine (Cert.MergeRefIdeal.Read.val_main_v42_eq m' c).trans ?_
    rw [h0, h1, h2, h3, h4, h5, h6, h7, h8, h9]
    refine Eq.trans ?_ (Cert.Ffw.Merge.array_eq m c).symm
    funext i
    obtain ⟨b, s, d, rfl⟩ : ∃ (b : Fin 8) (s : Fin 8192) (d : Fin 1024), i = ix3 b s d :=
      ⟨i 0, i 1, i 2, funext fun a => match a with | ⟨0, _⟩ => rfl | ⟨1, _⟩ => rfl | ⟨2, _⟩ => rfl⟩
    exact Cert.Ffw.Merge.ref_at _ _ _ _ _ _ _ _ _ _ b s d

/-! ## The input projection -/

theorem frame_proj : Cert.quiescent_Proj := fun m ρ _ => Cert.Proj.Gen.frame m ρ

theorem frame_projIdeal : Cert.quiescent_ProjIdeal := fun m ρ _ => Cert.ProjIdeal.Gen.frame m ρ

/-- The reference declares no semaphore. -/
theorem frame_projRef : Cert.quiescent_ProjRefIdeal := fun m ρ _ =>
  (θ_run Cert.ProjRefIdeal.defs _ _).mono (fun r h => ⟨fun c => (h c).2.2.2.2.2.2.2.2.2.2.2, sem_eq_zero_of_no_sems (by decide) r.2⟩)
    (Cert.ProjRefIdeal.Value.run (F := Ideal) m ρ)

set_option maxHeartbeats 2000000 in
/-- The projection and its reference end with equal results, all eleven. -/
theorem algebraic_proj : Cert.algebraic_ProjIdeal_ProjRefIdeal := by
  intro m ρ m' ρ' _ hagree
  refine ⟨fun c => (Cert.ProjIdeal.Gen.dats m 0 c).arrAt 3 Cert.ProjIdeal.cfg0.N,
    fun c => (Cert.ProjIdeal.Gen.dats m 0 c).arrAt 4 Cert.ProjIdeal.cfg0.N,
    fun c => (Cert.ProjIdeal.Gen.dats m 0 c).arrAt 5 Cert.ProjIdeal.cfg0.N,
    fun c => (Cert.ProjIdeal.Gen.dats m 0 c).arrAt 6 Cert.ProjIdeal.cfg0.N,
    fun c => (Cert.ProjIdeal.Gen.dats m 0 c).arrAt 7 Cert.ProjIdeal.cfg0.N,
    fun c => (Cert.ProjIdeal.Gen.dats m 0 c).arrAt 8 Cert.ProjIdeal.cfg0.N,
    fun c => (Cert.ProjIdeal.Gen.dats m 0 c).arrAt 9 Cert.ProjIdeal.cfg0.N,
    fun c => (Cert.ProjIdeal.Gen.dats m 0 c).arrAt 10 Cert.ProjIdeal.cfg0.N,
    fun c => (Cert.ProjIdeal.Gen.dats m 0 c).arrAt 11 Cert.ProjIdeal.cfg0.N,
    fun c => (Cert.ProjIdeal.Gen.dats m 0 c).arrAt 12 Cert.ProjIdeal.cfg0.N,
    fun c => (Cert.ProjIdeal.Gen.dats m 0 c).arrAt 13 Cert.ProjIdeal.cfg0.N, ?_, ?_⟩
  · exact Cert.ProjIdeal.Value.run_blocks m ρ
  · refine (θ_run Cert.ProjRefIdeal.defs _ _).mono (fun r h c => ?_) (Cert.ProjRefIdeal.Value.run (F := Ideal) m' ρ')
    obtain ⟨h0, h1, h2⟩ := hagree c
    obtain ⟨r3, r4, r5, r6, r7, r8, r9, r10, r11, r12, r13, kept⟩ := h c
    refine ⟨r3.trans ?_,
      r4.trans ?_,
      r5.trans ?_,
      r6.trans ?_,
      r7.trans ?_,
      r8.trans ?_,
      r9.trans ?_,
      r10.trans ?_,
      r11.trans ?_,
      r12.trans ?_,
      r13.trans ?_, kept⟩
    · exact (Cert.ProjRefIdeal.Read.val_main_v23_eq _ _ _).trans ((congr (congr (congrArg (Cert.ProjRefIdeal.Read.val_main_v23 (F := Ideal)) h0) h1) h2).trans
        ((funext fun j => Cert.Ffw.Proj.v23_at _ _ _ j).trans (Cert.Ffw.Proj.arr3 m c).symm))
    · exact (Cert.ProjRefIdeal.Read.val_main_v28_eq _ _ _).trans ((congr (congr (congrArg (Cert.ProjRefIdeal.Read.val_main_v28 (F := Ideal)) h0) h1) h2).trans
        ((funext fun j => Cert.Ffw.Proj.v28_at _ _ _ j).trans (Cert.Ffw.Proj.arr4 m c).symm))
    · exact (Cert.ProjRefIdeal.Read.val_main_v33_eq _ _ _).trans ((congr (congr (congrArg (Cert.ProjRefIdeal.Read.val_main_v33 (F := Ideal)) h0) h1) h2).trans
        ((funext fun j => Cert.Ffw.Proj.v33_at _ _ _ j).trans (Cert.Ffw.Proj.arr5 m c).symm))
    · exact (Cert.ProjRefIdeal.Read.val_main_v34_eq _ _ _).trans ((congr (congr (congrArg (Cert.ProjRefIdeal.Read.val_main_v34 (F := Ideal)) h0) h1) h2).trans
        ((funext fun j => Cert.Ffw.Proj.v34_at _ _ _ j).trans (Cert.Ffw.Proj.arr6 m c).symm))
    · exact (Cert.ProjRefIdeal.Read.val_main_v37_eq _ _ _).trans ((congr (congr (congrArg (Cert.ProjRefIdeal.Read.val_main_v37 (F := Ideal)) h0) h1) h2).trans
        ((funext fun j => Cert.Ffw.Proj.v37_at _ _ _ j).trans (Cert.Ffw.Proj.arr7 m c).symm))
    · exact (Cert.ProjRefIdeal.Read.val_main_v40_eq _ _ _).trans ((congr (congr (congrArg (Cert.ProjRefIdeal.Read.val_main_v40 (F := Ideal)) h0) h1) h2).trans
        ((funext fun j => Cert.Ffw.Proj.v40_at _ _ _ j).trans (Cert.Ffw.Proj.arr8 m c).symm))
    · exact (Cert.ProjRefIdeal.Read.val_main_v41_eq _ _ _).trans ((congr (congr (congrArg (Cert.ProjRefIdeal.Read.val_main_v41 (F := Ideal)) h0) h1) h2).trans
        ((funext fun j => Cert.Ffw.Proj.v41_at _ _ _ j).trans (Cert.Ffw.Proj.arr9 m c).symm))
    · exact (Cert.ProjRefIdeal.Read.val_main_v42_eq _ _ _).trans ((congr (congr (congrArg (Cert.ProjRefIdeal.Read.val_main_v42 (F := Ideal)) h0) h1) h2).trans
        ((funext fun j => Cert.Ffw.Proj.v42_at _ _ _ j).trans (Cert.Ffw.Proj.arr10 m c).symm))
    · exact (Cert.ProjRefIdeal.Read.val_main_v43_eq _ _ _).trans ((congr (congr (congrArg (Cert.ProjRefIdeal.Read.val_main_v43 (F := Ideal)) h0) h1) h2).trans
        ((funext fun j => Cert.Ffw.Proj.v43_at _ _ _ j).trans (Cert.Ffw.Proj.arr11 m c).symm))
    · exact (Cert.ProjRefIdeal.Read.val_main_v46_eq _ _ _).trans ((congr (congr (congrArg (Cert.ProjRefIdeal.Read.val_main_v46 (F := Ideal)) h0) h1) h2).trans
        ((funext fun j => Cert.Ffw.Proj.v46_at _ _ _ j).trans (Cert.Ffw.Proj.arr12 m c).symm))
    · exact (Cert.ProjRefIdeal.Read.val_main_v48_eq _ _ _).trans ((congr (congr (congrArg (Cert.ProjRefIdeal.Read.val_main_v48 (F := Ideal)) h0) h1) h2).trans
        ((funext fun j => Cert.Ffw.Proj.v48_at _ _ _ j).trans (Cert.Ffw.Proj.arr13 m c).symm))

/-! ## The input projection of the second layer -/

theorem frame_projNext : Cert.quiescent_ProjNext := fun m ρ _ => Cert.ProjNext.Gen.frame m ρ

theorem frame_projNextIdeal : Cert.quiescent_ProjNextIdeal := fun m ρ _ => Cert.ProjNextIdeal.Gen.frame m ρ

/-- The reference declares no semaphore. -/
theorem frame_projNextRef : Cert.quiescent_ProjNextRefIdeal := fun m ρ _ =>
  (θ_run Cert.ProjNextRefIdeal.defs _ _).mono (fun r h => ⟨fun c => (h c).2.2.2.2.2.2.2.2.2.2.2, sem_eq_zero_of_no_sems (by decide) r.2⟩)
    (Cert.ProjNextRefIdeal.Value.run (F := Ideal) m ρ)

set_option maxHeartbeats 2000000 in
/-- The second layer's projection and its reference end with equal results, all eleven. -/
theorem algebraic_projNext : Cert.algebraic_ProjNextIdeal_ProjNextRefIdeal := by
  intro m ρ m' ρ' _ hagree
  refine ⟨fun c => (Cert.ProjNextIdeal.Gen.dats m 0 c).arrAt 3 Cert.ProjNextIdeal.cfg0.N,
    fun c => (Cert.ProjNextIdeal.Gen.dats m 0 c).arrAt 4 Cert.ProjNextIdeal.cfg0.N,
    fun c => (Cert.ProjNextIdeal.Gen.dats m 0 c).arrAt 5 Cert.ProjNextIdeal.cfg0.N,
    fun c => (Cert.ProjNextIdeal.Gen.dats m 0 c).arrAt 6 Cert.ProjNextIdeal.cfg0.N,
    fun c => (Cert.ProjNextIdeal.Gen.dats m 0 c).arrAt 7 Cert.ProjNextIdeal.cfg0.N,
    fun c => (Cert.ProjNextIdeal.Gen.dats m 0 c).arrAt 8 Cert.ProjNextIdeal.cfg0.N,
    fun c => (Cert.ProjNextIdeal.Gen.dats m 0 c).arrAt 9 Cert.ProjNextIdeal.cfg0.N,
    fun c => (Cert.ProjNextIdeal.Gen.dats m 0 c).arrAt 10 Cert.ProjNextIdeal.cfg0.N,
    fun c => (Cert.ProjNextIdeal.Gen.dats m 0 c).arrAt 11 Cert.ProjNextIdeal.cfg0.N,
    fun c => (Cert.ProjNextIdeal.Gen.dats m 0 c).arrAt 12 Cert.ProjNextIdeal.cfg0.N,
    fun c => (Cert.ProjNextIdeal.Gen.dats m 0 c).arrAt 13 Cert.ProjNextIdeal.cfg0.N, ?_, ?_⟩
  · exact Cert.ProjNextIdeal.Value.run_blocks m ρ
  · refine (θ_run Cert.ProjNextRefIdeal.defs _ _).mono (fun r h c => ?_) (Cert.ProjNextRefIdeal.Value.run (F := Ideal) m' ρ')
    obtain ⟨h0, h1, h2, h3, h4⟩ := hagree c
    obtain ⟨r3, r4, r5, r6, r7, r8, r9, r10, r11, r12, r13, kept⟩ := h c
    refine ⟨r3.trans ?_,
      r4.trans ?_,
      r5.trans ?_,
      r6.trans ?_,
      r7.trans ?_,
      r8.trans ?_,
      r9.trans ?_,
      r10.trans ?_,
      r11.trans ?_,
      r12.trans ?_,
      r13.trans ?_, kept⟩
    · exact (Cert.ProjNextRefIdeal.Read.val_main_v23_eq _ _ _).trans ((congr (congr (congrArg (Cert.ProjNextRefIdeal.Read.val_main_v23 (F := Ideal)) h0) h1) h2).trans
        ((funext fun j => Cert.Ffw.ProjNext.v23_at _ _ _ j).trans (Cert.Ffw.ProjNext.arr3 m c).symm))
    · exact (Cert.ProjNextRefIdeal.Read.val_main_v29_eq _ _ _ _).trans ((congr (congr (congr (congrArg (Cert.ProjNextRefIdeal.Read.val_main_v29 (F := Ideal)) h0) h1) h2) h3).trans
        ((funext fun j => Cert.Ffw.ProjNext.v29_at _ _ _ _ j).trans (Cert.Ffw.ProjNext.arr4 m c).symm))
    · exact (Cert.ProjNextRefIdeal.Read.val_main_v35_eq _ _ _ _).trans ((congr (congr (congr (congrArg (Cert.ProjNextRefIdeal.Read.val_main_v35 (F := Ideal)) h0) h1) h2) h4).trans
        ((funext fun j => Cert.Ffw.ProjNext.v35_at _ _ _ _ j).trans (Cert.Ffw.ProjNext.arr5 m c).symm))
    · exact (Cert.ProjNextRefIdeal.Read.val_main_v36_eq _ _ _).trans ((congr (congr (congrArg (Cert.ProjNextRefIdeal.Read.val_main_v36 (F := Ideal)) h0) h1) h2).trans
        ((funext fun j => Cert.Ffw.ProjNext.v36_at _ _ _ j).trans (Cert.Ffw.ProjNext.arr6 m c).symm))
    · exact (Cert.ProjNextRefIdeal.Read.val_main_v39_eq _ _ _).trans ((congr (congr (congrArg (Cert.ProjNextRefIdeal.Read.val_main_v39 (F := Ideal)) h0) h1) h2).trans
        ((funext fun j => Cert.Ffw.ProjNext.v39_at _ _ _ j).trans (Cert.Ffw.ProjNext.arr7 m c).symm))
    · exact (Cert.ProjNextRefIdeal.Read.val_main_v42_eq _ _ _).trans ((congr (congr (congrArg (Cert.ProjNextRefIdeal.Read.val_main_v42 (F := Ideal)) h0) h1) h2).trans
        ((funext fun j => Cert.Ffw.ProjNext.v42_at _ _ _ j).trans (Cert.Ffw.ProjNext.arr8 m c).symm))
    · exact (Cert.ProjNextRefIdeal.Read.val_main_v43_eq _ _ _).trans ((congr (congr (congrArg (Cert.ProjNextRefIdeal.Read.val_main_v43 (F := Ideal)) h0) h1) h2).trans
        ((funext fun j => Cert.Ffw.ProjNext.v43_at _ _ _ j).trans (Cert.Ffw.ProjNext.arr9 m c).symm))
    · exact (Cert.ProjNextRefIdeal.Read.val_main_v44_eq _ _ _).trans ((congr (congr (congrArg (Cert.ProjNextRefIdeal.Read.val_main_v44 (F := Ideal)) h0) h1) h2).trans
        ((funext fun j => Cert.Ffw.ProjNext.v44_at _ _ _ j).trans (Cert.Ffw.ProjNext.arr10 m c).symm))
    · exact (Cert.ProjNextRefIdeal.Read.val_main_v45_eq _ _ _).trans ((congr (congr (congrArg (Cert.ProjNextRefIdeal.Read.val_main_v45 (F := Ideal)) h0) h1) h2).trans
        ((funext fun j => Cert.Ffw.ProjNext.v45_at _ _ _ j).trans (Cert.Ffw.ProjNext.arr11 m c).symm))
    · exact (Cert.ProjNextRefIdeal.Read.val_main_v48_eq _ _ _).trans ((congr (congr (congrArg (Cert.ProjNextRefIdeal.Read.val_main_v48 (F := Ideal)) h0) h1) h2).trans
        ((funext fun j => Cert.Ffw.ProjNext.v48_at _ _ _ j).trans (Cert.Ffw.ProjNext.arr12 m c).symm))
    · exact (Cert.ProjNextRefIdeal.Read.val_main_v50_eq _ _ _).trans ((congr (congr (congrArg (Cert.ProjNextRefIdeal.Read.val_main_v50 (F := Ideal)) h0) h1) h2).trans
        ((funext fun j => Cert.Ffw.ProjNext.v50_at _ _ _ j).trans (Cert.Ffw.ProjNext.arr13 m c).symm))

theorem claim : Cert.Claim := ⟨Cert.Experts.Gen.facts, Cert.ExpertsIdeal.Gen.facts, Cert.ExpertsRefIdeal.Gen.facts, Cert.Ffn.Gen.facts,
  Cert.FfnIdeal.Gen.facts, Cert.FfnRefIdeal.Gen.facts,
  Cert.Merge.Gen.facts, Cert.MergeIdeal.Gen.facts, Cert.MergeRefIdeal.Gen.facts,
  Cert.Proj.Gen.facts, Cert.ProjIdeal.Gen.facts, Cert.ProjRefIdeal.Gen.facts, Cert.ProjNext.Gen.facts, Cert.ProjNextIdeal.Gen.facts, Cert.ProjNextRefIdeal.Gen.facts,
  Cert.Pre_experts_in_range.Gen.facts,
  frame_experts, frame_expertsIdeal, frame_expertsRef, frame_ffn, frame_ffnIdeal, frame_ffnRef,
  frame_merge, frame_mergeIdeal, frame_mergeRef, frame_proj, frame_projIdeal, frame_projRef,
  frame_projNext, frame_projNextIdeal, frame_projNextRef,
  trivial, algebraic_experts, trivial, algebraic_ffn, trivial, algebraic_merge, trivial, algebraic_proj,
  trivial, algebraic_projNext⟩

end Cert.Proof

end
